-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S32x1x128x4096 : Shape := ⟨4, ![32, 1, 128, 4096]⟩
abbrev S128 : Shape := ⟨1, ![128]⟩
abbrev S_ : Shape := ⟨0, ![]⟩

class Facts : Prop where
  bcast_S_S32x1x128x4096 : S_.BroadcastsInDim S32x1x128x4096 (![] : Fin 0 → Fin S32x1x128x4096.rank)
  reducesTo_S32x1x128x4096_S_d0_1_2_3 : S32x1x128x4096.ReducesTo [0, 1, 2, 3] S_
  h_S_ : 0 < S_.numel

variable [Facts]

def fn {F : FTy → Type} [FloatOps F] (main_arg0 : FVec F S32x1x128x4096 .f32) (main_arg1 : FVec F S128 .f32) (main_arg2 : FVec F S128 .f32) (main_arg3 : FVec F S128 .f32) : IVec S_ 1 :=
  let main_cst : FVec F S_ .f32 := constant S_ .f32 0x00000000#32
  let main_v0 : FVec F S32x1x128x4096 .f32 := broadcastInDim S32x1x128x4096 ![] bcast_S_S32x1x128x4096 main_cst
  let main_v1 : IVec S32x1x128x4096 1 := cmpf .oge main_arg0 main_v0
  let main_c : IVec S_ 1 := constantI S_ 1 1#1
  let main_v2 : IVec S_ 1 := (fun x v => Host.reduce IntOp.andi x v reducesTo_S32x1x128x4096_S_d0_1_2_3 h_S_) main_v1 main_c
  main_v2
-- ==== Kernel.lean ====
abbrev S32x1x128x4096 : Shape := ⟨4, ![32, 1, 128, 4096]⟩
abbrev S128 : Shape := ⟨1, ![128]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4096 : Shape := ⟨1, ![4096]⟩
abbrev S4096x1 : Shape := ⟨2, ![4096, 1]⟩
abbrev S17 : Shape := ⟨1, ![17]⟩
abbrev S1x17 : Shape := ⟨2, ![1, 17]⟩
abbrev S4096x17 : Shape := ⟨2, ![4096, 17]⟩
abbrev S17x1 : Shape := ⟨2, ![17, 1]⟩
abbrev S16 : Shape := ⟨1, ![16]⟩
abbrev S1x16 : Shape := ⟨2, ![1, 16]⟩
abbrev S17x16 : Shape := ⟨2, ![17, 16]⟩
abbrev S1x128 : Shape := ⟨2, ![1, 128]⟩
abbrev S32x128x4096 : Shape := ⟨3, ![32, 128, 4096]⟩
abbrev S32x4096x128 : Shape := ⟨3, ![32, 4096, 128]⟩
abbrev S1x128x4096 : Shape := ⟨3, ![1, 128, 4096]⟩
abbrev S1x4096x128 : Shape := ⟨3, ![1, 4096, 128]⟩
abbrev S128x4096 : Shape := ⟨2, ![128, 4096]⟩
abbrev S128x17 : Shape := ⟨2, ![128, 17]⟩
abbrev S128x16 : Shape := ⟨2, ![128, 16]⟩
abbrev S16x128 : Shape := ⟨2, ![16, 128]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 135
  | .vmem => 12
  | .smem => 0
  | _ => 0

abbrev hbmTy0_0 (i : Nat) : BufTy := match i % 128 with
  | 0 => ⟨S32x1x128x4096, .f32⟩
  | 1 => ⟨S128, .f32⟩
  | 2 => ⟨S128, .f32⟩
  | 3 => ⟨S128, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S256, .i32⟩
  | 16 => ⟨S256x1, .i32⟩
  | 17 => ⟨S1x256, .i32⟩
  | 18 => ⟨S256x256, .i32⟩
  | 19 => ⟨S256x256, .i32⟩
  | 20 => ⟨S256x256, .i32⟩
  | 21 => ⟨S_, .i32⟩
  | 22 => ⟨S256x256, .i32⟩
  | 23 => ⟨S256x256, .i1⟩
  | 24 => ⟨S_, .f32⟩
  | 25 => ⟨S_, .f32⟩
  | 26 => ⟨S_, .f32⟩
  | 27 => ⟨S_, .i32⟩
  | 28 => ⟨S256x256, .i32⟩
  | 29 => ⟨S256x256, .i32⟩
  | 30 => ⟨S256x256, .f32⟩
  | 31 => ⟨S256x256, .f32⟩
  | 32 => ⟨S256x256, .f32⟩
  | 33 => ⟨S256x256, .f32⟩
  | 34 => ⟨S_, .f32⟩
  | 35 => ⟨S256x256, .f32⟩
  | 36 => ⟨S256x256, .f32⟩
  | 37 => ⟨S_, .f32⟩
  | 38 => ⟨S_, .f32⟩
  | 39 => ⟨S256x256, .f32⟩
  | 40 => ⟨S256x256, .f32⟩
  | 41 => ⟨S_, .f32⟩
  | 42 => ⟨S_, .f32⟩
  | 43 => ⟨S_, .f32⟩
  | 44 => ⟨S256, .f32⟩
  | 45 => ⟨S_, .f32⟩
  | 46 => ⟨S256, .f32⟩
  | 47 => ⟨S256, .f32⟩
  | 48 => ⟨S256, .f32⟩
  | 49 => ⟨S256, .f32⟩
  | 50 => ⟨S256, .f32⟩
  | 51 => ⟨S256x1, .f32⟩
  | 52 => ⟨S4096, .i32⟩
  | 53 => ⟨S4096x1, .i32⟩
  | 54 => ⟨S17, .i32⟩
  | 55 => ⟨S1x17, .i32⟩
  | 56 => ⟨S_, .i32⟩
  | 57 => ⟨S1x17, .i32⟩
  | 58 => ⟨S1x17, .i32⟩
  | 59 => ⟨S_, .i32⟩
  | 60 => ⟨S1x17, .i32⟩
  | 61 => ⟨S1x17, .i32⟩
  | 62 => ⟨S4096x17, .i32⟩
  | 63 => ⟨S4096x17, .i32⟩
  | 64 => ⟨S4096x17, .i32⟩
  | 65 => ⟨S_, .i32⟩
  | 66 => ⟨S4096x17, .i32⟩
  | 67 => ⟨S4096x17, .i1⟩
  | 68 => ⟨S_, .i32⟩
  | 69 => ⟨S4096x17, .i32⟩
  | 70 => ⟨S4096x17, .i1⟩
  | 71 => ⟨S4096x17, .i1⟩
  | 72 => ⟨S_, .f32⟩
  | 73 => ⟨S_, .f32⟩
  | 74 => ⟨S_, .f32⟩
  | 75 => ⟨S_, .i32⟩
  | 76 => ⟨S4096x17, .i32⟩
  | 77 => ⟨S4096x17, .i32⟩
  | 78 => ⟨S4096x17, .f32⟩
  | 79 => ⟨S4096x17, .f32⟩
  | 80 => ⟨S4096x17, .f32⟩
  | 81 => ⟨S4096x17, .f32⟩
  | 82 => ⟨S_, .f32⟩
  | 83 => ⟨S4096x17, .f32⟩
  | 84 => ⟨S4096x17, .f32⟩
  | 85 => ⟨S_, .f32⟩
  | 86 => ⟨S_, .f32⟩
  | 87 => ⟨S4096x17, .f32⟩
  | 88 => ⟨S4096x17, .f32⟩
  | 89 => ⟨S_, .i32⟩
  | 90 => ⟨S4096x1, .i32⟩
  | 91 => ⟨S4096x1, .i1⟩
  | 92 => ⟨S_, .i32⟩
  | 93 => ⟨S1x17, .i32⟩
  | 94 => ⟨S1x17, .i1⟩
  | 95 => ⟨S4096x17, .i1⟩
  | 96 => ⟨S4096x17, .i1⟩
  | 97 => ⟨S4096x17, .i1⟩
  | 98 => ⟨S_, .f32⟩
  | 99 => ⟨S_, .f32⟩
  | 100 => ⟨S4096x17, .f32⟩
  | 101 => ⟨S4096x17, .f32⟩
  | 102 => ⟨S17, .i32⟩
  | 103 => ⟨S17x1, .i32⟩
  | 104 => ⟨S16, .i32⟩
  | 105 => ⟨S1x16, .i32⟩
  | 106 => ⟨S17x16, .i32⟩
  | 107 => ⟨S17x16, .i32⟩
  | 108 => ⟨S17x16, .i32⟩
  | 109 => ⟨S_, .i32⟩
  | 110 => ⟨S17x16, .i32⟩
  | 111 => ⟨S17x16, .i1⟩
  | 112 => ⟨S_, .i32⟩
  | 113 => ⟨S17x16, .i32⟩
  | 114 => ⟨S17x16, .i32⟩
  | 115 => ⟨S17x16, .f32⟩
  | 116 => ⟨S17x16, .f32⟩
  | 117 => ⟨S17x16, .f32⟩
  | 118 => ⟨S17x16, .f32⟩
  | 119 => ⟨S_, .f32⟩
  | 120 => ⟨S_, .f32⟩
  | 121 => ⟨S17x16, .f32⟩
  | 122 => ⟨S17x16, .f32⟩
  | 123 => ⟨S128, .f32⟩
  | 124 => ⟨S1x128, .f32⟩
  | 125 => ⟨S1x128, .f32⟩
  | 126 => ⟨S128, .f32⟩
  | 127 => ⟨S1x128, .f32⟩
  | _ => ⟨S32x1x128x4096, .f32⟩

abbrev hbmTy0_1 (i : Nat) : BufTy := match i % 128 with
  | 0 => ⟨S128, .f32⟩
  | 1 => ⟨S1x128, .f32⟩
  | 2 => ⟨S1x128, .f32⟩
  | 3 => ⟨S1x128, .f32⟩
  | 4 => ⟨S1x128, .f32⟩
  | 5 => ⟨S32x128x4096, .f32⟩
  | 6 => ⟨S32x4096x128, .f32⟩
  | _ => ⟨S32x1x128x4096, .f32⟩

abbrev hbmTy (i : Nat) : BufTy := match i / 128 with
  | 0 => hbmTy0_0 i
  | 1 => hbmTy0_1 i
  | _ => ⟨S32x1x128x4096, .f32⟩

abbrev bufTy : (tb : Table) → Fin (tcTables nBuf tb) → BufTy
  | .hbm, ⟨i, _⟩ => hbmTy i
  | .local _ .vmem, ⟨0, _⟩ => ⟨S1x128x4096, .f32⟩
  | .local _ .vmem, ⟨1, _⟩ => ⟨S1x128x4096, .f32⟩
  | .local _ .vmem, ⟨2, _⟩ => ⟨S256x256, .f32⟩
  | .local _ .vmem, ⟨3, _⟩ => ⟨S256x1, .f32⟩
  | .local _ .vmem, ⟨4, _⟩ => ⟨S4096x17, .f32⟩
  | .local _ .vmem, ⟨5, _⟩ => ⟨S17x16, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x4096x128, .f32⟩
  | .local _ .vmem, ⟨11, _⟩ => ⟨S1x4096x128, .f32⟩
  | _, _ => ⟨S32x1x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_cst_2 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v26 : Ref sig .tc := ⟨.hbm, 40, rfl⟩
abbrev main_cst_6 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_c_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_cst_14 : Ref sig .tc := ⟨.hbm, 73, rfl⟩
abbrev main_v51 : Ref sig .tc := ⟨.hbm, 74, rfl⟩
abbrev main_c_15 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩
abbrev main_v59 : Ref sig .tc := ⟨.hbm, 84, rfl⟩
abbrev main_cst_17 : Ref sig .tc := ⟨.hbm, 85, rfl⟩
abbrev main_call1_v0 : Ref sig .tc := ⟨.hbm, 86, rfl⟩
abbrev main_call1_v1 : Ref sig .tc := ⟨.hbm, 87, rfl⟩
abbrev main_v60 : Ref sig .tc := ⟨.hbm, 88, rfl⟩
abbrev main_c_18 : Ref sig .tc := ⟨.hbm, 89, rfl⟩
abbrev main_v61 : Ref sig .tc := ⟨.hbm, 90, rfl⟩
abbrev main_v62 : Ref sig .tc := ⟨.hbm, 91, rfl⟩
abbrev main_c_19 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_20 : Ref sig .tc := ⟨.hbm, 98, rfl⟩
abbrev main_call2_v0 : Ref sig .tc := ⟨.hbm, 99, rfl⟩
abbrev main_call2_v1 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_21 : Ref sig .tc := ⟨.hbm, 109, rfl⟩
abbrev main_v76 : Ref sig .tc := ⟨.hbm, 110, rfl⟩
abbrev main_v77 : Ref sig .tc := ⟨.hbm, 111, rfl⟩
abbrev main_c_22 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_23 : Ref sig .tc := ⟨.hbm, 119, rfl⟩
abbrev main_call3_v0 : Ref sig .tc := ⟨.hbm, 120, rfl⟩
abbrev main_call3_v1 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x17 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S17x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32x1x128x4096 : Shape := ⟨4, ![32, 1, 128, 4096]⟩
abbrev S128 : Shape := ⟨1, ![128]⟩
abbrev S128x1 : Shape := ⟨2, ![128, 1]⟩
abbrev S4096x32x1x128 : Shape := ⟨4, ![4096, 32, 1, 128]⟩
abbrev S1x32x1x128 : Shape := ⟨4, ![1, 32, 1, 128]⟩
abbrev S32x1x128 : Shape := ⟨3, ![32, 1, 128]⟩
abbrev S4095x32x1x128 : Shape := ⟨4, ![4095, 32, 1, 128]⟩
abbrev S_ : Shape := ⟨0, ![]⟩
abbrev S1x1x128x1 : Shape := ⟨4, ![1, 1, 128, 1]⟩
abbrev S32x1x4096x128 : Shape := ⟨4, ![32, 1, 4096, 128]⟩
abbrev S32x4096x128 : Shape := ⟨3, ![32, 4096, 128]⟩

abbrev nBuf : Space → Nat
  | .hbm => 73
  | .vmem => 0
  | .smem => 0
  | _ => 0

abbrev bufTy : (tb : Table) → Fin (tcTables nBuf tb) → BufTy
  | .hbm, ⟨0, _⟩ => ⟨S32x1x128x4096, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x1, .f32⟩
  | .hbm, ⟨6, _⟩ => ⟨S128, .f32⟩
  | .hbm, ⟨7, _⟩ => ⟨S128x1, .f32⟩
  | .hbm, ⟨8, _⟩ => ⟨S128, .f32⟩
  | .hbm, ⟨9, _⟩ => ⟨S128x1, .f32⟩
  | .hbm, ⟨10, _⟩ => ⟨S4096x32x1x128, .f32⟩
  | .hbm, ⟨11, _⟩ => ⟨S1x32x1x128, .f32⟩
  | .hbm, ⟨12, _⟩ => ⟨S32x1x128, .f32⟩
  | .hbm, ⟨13, _⟩ => ⟨S4095x32x1x128, .f32⟩
  | .hbm, ⟨14, _⟩ => ⟨S_, .f32⟩
  | .hbm, ⟨15, _⟩ => ⟨S_, .f32⟩
  | .hbm, ⟨16, _⟩ => ⟨S4095x32x1x128, .f32⟩
  | .hbm, ⟨17, _⟩ => ⟨S_, .i32⟩
  | .hbm, ⟨18, _⟩ => ⟨S4095x32x1x128, .f32⟩
  | .hbm, ⟨19, _⟩ => ⟨S_, .f32⟩
  | .hbm, ⟨20, _⟩ => ⟨S_, .i32⟩
  | .hbm, ⟨21, _⟩ => ⟨S32x1x128, .f32⟩
  | .hbm, ⟨22, _⟩ => ⟨S4095x32x1x128, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x32x1x128, .f32⟩
  | .hbm, ⟨29, _⟩ => ⟨S32x1x128, .f32⟩
  | .hbm, ⟨30, _⟩ => ⟨S_, .f32⟩
  | .hbm, ⟨31, _⟩ => ⟨S_, .f32⟩
  | .hbm, ⟨32, _⟩ => ⟨S32x1x128, .f32⟩
  | .hbm, ⟨33, _⟩ => ⟨S32x1x128, .f32⟩
  | .hbm, ⟨34, _⟩ => ⟨S32x1x128, .f32⟩
  | .hbm, ⟨35, _⟩ => ⟨S32x1x128, .f32⟩
  | .hbm, ⟨36, _⟩ => ⟨S32x1x128, .f32⟩
  | .hbm, ⟨37, _⟩ => ⟨S1x32x1x128, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S4095x32x1x128, .f32⟩
  | .hbm, ⟨42, _⟩ => ⟨S_, .i32⟩
  | .hbm, ⟨43, _⟩ => ⟨S_, .i32⟩
  | .hbm, ⟨44, _⟩ => ⟨S1x32x1x128, .f32⟩
  | .hbm, ⟨45, _⟩ => ⟨S4096x32x1x128, .f32⟩
  | .hbm, ⟨46, _⟩ => ⟨S32x1x128x4096, .f32⟩
  | .hbm, ⟨47, _⟩ => ⟨S128x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S32x1x128x4096, .f32⟩
  | .hbm, ⟨52, _⟩ => ⟨S32x1x128x4096, .f32⟩
  | .hbm, ⟨53, _⟩ => ⟨S32x1x128x4096, .f32⟩
  | .hbm, ⟨54, _⟩ => ⟨S32x1x128x4096, .f32⟩
  | .hbm, ⟨55, _⟩ => ⟨S32x1x128x4096, .f32⟩
  | .hbm, ⟨56, _⟩ => ⟨S1x1x128x1, .f32⟩
  | .hbm, ⟨57, _⟩ => ⟨S32x1x128x4096, .f32⟩
  | .hbm, ⟨58, _⟩ => ⟨S32x1x128x4096, .f32⟩
  | .hbm, ⟨59, _⟩ => ⟨S32x1x128x4096, .f32⟩
  | .hbm, ⟨60, _⟩ => ⟨S32x1x128x4096, .f32⟩
  | .hbm, ⟨61, _⟩ => ⟨S1x1x128x1, .f32⟩
  | .hbm, ⟨62, _⟩ => ⟨S32x1x128x4096, .f32⟩
  | .hbm, ⟨63, _⟩ => ⟨S32x1x128x4096, .f32⟩
  | .hbm, ⟨64, _⟩ => ⟨S1x1x128x1, .f32⟩
  | .hbm, ⟨65, _⟩ => ⟨S32x1x128x4096, .f32⟩
  | .hbm, ⟨66, _⟩ => ⟨S32x1x128x4096, .f32⟩
  | .hbm, ⟨67, _⟩ => ⟨S128x1, .f32⟩
  | .hbm, ⟨68, _⟩ => ⟨S1x1x128x1, .f32⟩
  | .hbm, ⟨69, _⟩ => ⟨S32x1x128x4096, .f32⟩
  | .hbm, ⟨70, _⟩ => ⟨S32x1x128x4096, .f32⟩
  | .hbm, ⟨71, _⟩ => ⟨S32x1x4096x128, .f32⟩
  | .hbm, ⟨72, _⟩ => ⟨S32x4096x128, .f32⟩
  | _, _ => ⟨S32x1x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_cst_0 : Ref sig .tc := ⟨.hbm, 15, rfl⟩
abbrev main_v10 : Ref sig .tc := ⟨.hbm, 16, rfl⟩
abbrev main_c : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_while0c_c_7 : Ref sig .tc := ⟨.hbm, 23, rfl⟩
abbrev main_while0c_v39 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_c_1 : Ref sig .tc := ⟨.hbm, 27, rfl⟩
abbrev main_while0b_call0_v0 : Ref sig .tc := ⟨.hbm, 28, rfl⟩
abbrev main_while0b_v39 : Ref sig .tc := ⟨.hbm, 29, rfl⟩
abbrev main_while0b_cst_7 : Ref sig .tc := ⟨.hbm, 30, rfl⟩
abbrev main_while0b_v40 : Ref sig .tc := ⟨.hbm, 31, rfl⟩
abbrev main_while0b_v41 : Ref sig .tc := ⟨.hbm, 32, rfl⟩
abbrev main_while0b_v42 : Ref sig .tc := ⟨.hbm, 33, rfl⟩
abbrev main_while0b_v43 : Ref sig .tc := ⟨.hbm, 34, rfl⟩
abbrev main_while0b_v44 : Ref sig .tc := ⟨.hbm, 35, rfl⟩
abbrev main_while0b_v45 : Ref sig .tc := ⟨.hbm, 36, rfl⟩
abbrev main_while0b_call1_v0 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_v46 : Ref sig .tc := ⟨.hbm, 41, rfl⟩
abbrev main_while0b_c_8 : Ref sig .tc := ⟨.hbm, 42, rfl⟩
abbrev main_while0b_v47 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_1 : Ref sig .tc := ⟨.hbm, 48, rfl⟩
abbrev main_v16 : Ref sig .tc := ⟨.hbm, 49, rfl⟩
abbrev main_cst_2 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩

abbrev nD : Nat := 1
abbrev τ : Topo := Topo.v7x

variable {F : FTy → Type} [FloatOps F]

abbrev main_while0_count : Scf.Loop 32 := ⟨0#32, 4095#32, 1#32⟩
-- ==== Proof.KernelBlock.lean ====
/-
  What one grid point writes: the sixteen pieces of the result block are one function of the block's step and
  feature, read at an index as sums and scalar operations of the input blocks.
-/
module

public import proofs.«01_k».proof.Proof.Gen.KernelIdeal.Frame
public import Idealize.ShloMosaic.Lib.Pipeline.Value
public import Idealize.ShloMosaic.Lib.Pointwise

@[expose] public section

noncomputable section

namespace Cert.Pcen.Kernel

open Cert.KernelIdeal Cert.KernelIdeal.Gen Idealize.ShloMosaic Idealize.ShloMosaic.TcCoe

/-- One chunk's result block: the within-block product plus the decayed carry, compressed. -/
def chunk (v1 : FVec Ideal S256x256 .f32) (v3 : FVec Ideal S256x1 .f32) (v5 v7 v9 v11 : FVec Ideal S1x128 .f32)
    (v13 : FVec Ideal S128x4096 .f32) (v20 : FVec Ideal S16x128 .f32) (j o : ℕ)
    (ho : S128x4096.Slices ![0, o] S128x256) (hj : S16x128.Slices ![j, 0] S1x128) : FVec Ideal S1x256x128 .f32 :=
  have xt : FVec Ideal S256x128 .f32 :=
    transpose S256x128 [1, 0] (extractStridedSlice S128x256 ![0, o] v13 ho) transposes_S128x256_p1_0_S256x128
  have g : FVec Ideal S256x128 .f32 :=
    matmul dot_S256x256_S256x128_S256x128_1_0_0_1_n_n none v1 xt (constant S256x128 .f32 0x00000000#32)
  have c : FVec Ideal S256x128 .f32 :=
    mulf (broadcastTo S256x128 v3 broadcasts_S256x1_S256x128)
      (broadcastTo S256x128 (extractStridedSlice S1x128 ![j, 0] v20 hj) broadcasts_S1x128_S256x128)
  have l : FVec Ideal S256x128 .f32 :=
    log (addf (addf g c) (broadcast S256x128 (Scalar.ofBits .f32 0x3727C5AC#32 : Ideal .f32)))
  have u : FVec Ideal S256x128 .f32 :=
    addf (mulf xt (exp (mulf (broadcastTo S256x128 v5 broadcasts_S1x128_S256x128) l)))
      (broadcastTo S256x128 v7 broadcasts_S1x128_S256x128)
  have e : FVec Ideal S256x128 .f32 :=
    exp (mulf (broadcastTo S256x128 v9 broadcasts_S1x128_S256x128) (log u))
  shapeCast S1x256x128 (subf e (broadcastTo S256x128 v11 broadcasts_S1x128_S256x128)) shapeCasts_S256x128_S1x256x128

/-- A chunk's result at step `i` of the chunk and feature `f`. -/
theorem chunk_apply (v1 : FVec Ideal S256x256 .f32) (v3 : FVec Ideal S256x1 .f32) (v5 v7 v9 v11 : FVec Ideal S1x128 .f32)
    (v13 : FVec Ideal S128x4096 .f32) (v20 : FVec Ideal S16x128 .f32) (j o : ℕ)
    (ho : S128x4096.Slices ![0, o] S128x256) (hj : S16x128.Slices ![j, 0] S1x128)
    (hj' : j < 16) (ho' : o + 256 ≤ 4096) (a : Fin 1) (i : Fin 256) (f : Fin 128) :
    chunk v1 v3 v5 v7 v9 v11 v13 v20 j o ho hj (ix3 a i f)
      = Ideal.exp (v9 (ix2 0 f) * Ideal.log (v13 (ix2 f ⟨o + i.val, by omega⟩)
          * Ideal.exp (v5 (ix2 0 f) * Ideal.log ((∑ k : Fin 256, v1 (ix2 i k) * v13 (ix2 f ⟨o + k.val, by omega⟩))
              + v3 (ix2 i 0) * v20 (ix2 ⟨j, hj'⟩ f) + Ideal.ofBits .f32 0x3727C5AC#32)) + v7 (ix2 0 f)))
        - v11 (ix2 0 f) := by
  pointwise [chunk]

/-- The smoothed value at step `t` and feature `f`, from the blocks of the samples and of the four tables. -/
def smoothed (x0 : Vec Ideal S1x128x4096 .f32) (x1 : Vec Ideal S256x256 .f32) (x2 : Vec Ideal S256x1 .f32)
    (x3 : Vec Ideal S4096x17 .f32) (x4 : Vec Ideal S17x16 .f32) (t : Fin 4096) (f : Fin 128) : EReal :=
  (∑ k : Fin 256, x1 (ix2 ⟨t.val % 256, by omega⟩ k) * x0 (ix3 0 f ⟨t.val / 256 * 256 + k.val, by omega⟩))
    + x2 (ix2 ⟨t.val % 256, by omega⟩ 0)
      * ∑ l : Fin 17, (∑ t' : Fin 4096, x0 (ix3 0 f t') * x3 (ix2 t' l)) * x4 (ix2 l ⟨t.val / 256, by omega⟩)

/-- The result block at step `t` and feature `f`. -/
def blockVal (x0 : Vec Ideal S1x128x4096 .f32) (x1 : Vec Ideal S256x256 .f32) (x2 : Vec Ideal S256x1 .f32)
    (x3 : Vec Ideal S4096x17 .f32) (x4 : Vec Ideal S17x16 .f32) (x5 x6 x7 x8 : Vec Ideal S1x128 .f32)
    (t : Fin 4096) (f : Fin 128) : EReal :=
  Ideal.exp (x7 (ix2 0 f) * Ideal.log (x0 (ix3 0 f t)
      * Ideal.exp (x5 (ix2 0 f) * Ideal.log (smoothed x0 x1 x2 x3 x4 t f + Ideal.ofBits .f32 0x3727C5AC#32))
      + x6 (ix2 0 f)))
    - x8 (ix2 0 f)

/-- The carries, one row per chunk, read at a chunk and a feature. -/
theorem carries_apply (x0 : Vec Ideal S1x128x4096 .f32) (x3 : Vec Ideal S4096x17 .f32) (x4 : Vec Ideal S17x16 .f32)
    (j : Fin 16) (f : Fin 128) :
    k0_pay9 (F := Ideal) (View.ld x0 r0_3) (View.ld x3 r0_4) (View.ld x4 r0_5) (ix2 j f)
      = ∑ l : Fin 17, (∑ t' : Fin 4096, x0 (ix3 0 f t') * x3 (ix2 t' l)) * x4 (ix2 l j) := by
  pointwise [k0_pay9, k0_pay8]

/-- Chunk `j` over the input blocks is the block's function at the steps the chunk stores to. -/
theorem chunk_piece (x0 : Vec Ideal S1x128x4096 .f32) (x1 : Vec Ideal S256x256 .f32) (x2 : Vec Ideal S256x1 .f32)
    (x3 : Vec Ideal S4096x17 .f32) (x4 : Vec Ideal S17x16 .f32) (x5 x6 x7 x8 : Vec Ideal S1x128 .f32)
    (j o : ℕ) (hj' : j < 16) (hjo : o = 256 * j)
    (ho : S128x4096.Slices ![0, o] S128x256) (hj : S16x128.Slices ![j, 0] S1x128)
    (inb : ∀ a, (![0, o, 0] : Fin 3 → ℕ) a + S1x256x128.size a ≤ S1x4096x128.size a)
    (x : (Rect.unit (s := S1x4096x128) ![0, o, 0] S1x256x128.size inb).shape.Idx) :
    chunk (k0_pay2 (View.ld x1 r0_0)) (k0_pay3 (View.ld x2 r0_1)) (k0_pay4 (View.ld x5 r0_2)) (k0_pay5 (View.ld x6 r0_2))
        (k0_pay6 (View.ld x7 r0_2)) (k0_pay7 (View.ld x8 r0_2)) (k0_pay8 (View.ld x0 r0_3))
        (k0_pay9 (View.ld x0 r0_3) (View.ld x3 r0_4) (View.ld x4 r0_5)) j o ho hj x
      = blockVal x0 x1 x2 x3 x4 x5 x6 x7 x8
          ((Rect.unit (s := S1x4096x128) ![0, o, 0] S1x256x128.size inb).emb x 1)
          ((Rect.unit (s := S1x4096x128) ![0, o, 0] S1x256x128.size inb).emb x 2) := by
  obtain ⟨a, i, f, rfl⟩ : ∃ (a : Fin 1) (i : Fin 256) (f : Fin 128), x = ix3 a i f := ⟨x 0, x 1, x 2, eq_ix3 x⟩
  have ht : (Rect.unit (s := S1x4096x128) ![0, o, 0] S1x256x128.size inb).emb (ix3 a i f) 1
      = (⟨o + i.val, by omega⟩ : Fin 4096) := Fin.ext (by
    rw [Rect.emb_apply]; show o + 1 * i.val = o + i.val; omega)
  have hf : (Rect.unit (s := S1x4096x128) ![0, o, 0] S1x256x128.size inb).emb (ix3 a i f) 2
      = f := Fin.ext (by
    rw [Rect.emb_apply]; show 0 + 1 * f.val = f.val; omega)
  rw [ht, hf, chunk_apply _ _ _ _ _ _ _ _ _ _ _ _ hj' (by omega), carries_apply]
  have e1 : (⟨(⟨o + i.val, by omega⟩ : Fin 4096).val % 256, by omega⟩ : Fin 256) = i := Fin.ext (by
    show (o + i.val) % 256 = i.val; omega)
  have e2 : (⟨(⟨o + i.val, by omega⟩ : Fin 4096).val / 256, by omega⟩ : Fin 16) = ⟨j, hj'⟩ := Fin.ext (by
    show (o + i.val) / 256 = j; omega)
  have e3 : ∀ k : Fin 256, (⟨(⟨o + i.val, by omega⟩ : Fin 4096).val / 256 * 256 + k.val, by omega⟩ : Fin 4096)
      = ⟨o + k.val, by omega⟩ := fun k => Fin.ext (by
    show (o + i.val) / 256 * 256 + k.val = o + k.val; omega)
  unfold blockVal smoothed
  rw [e1, e2]
  simp only [e3]
  pointwise [k0_pay2, k0_pay3, k0_pay4, k0_pay5, k0_pay6, k0_pay7, k0_pay8]

/-- The result block of a grid point, at an index, is the block's function of the input blocks. -/
theorem out_apply (x0 : Vec Ideal S1x128x4096 .f32) (x1 : Vec Ideal S256x256 .f32) (x2 : Vec Ideal S256x1 .f32)
    (x3 : Vec Ideal S4096x17 .f32) (x4 : Vec Ideal S17x16 .f32) (x5 x6 x7 x8 : Vec Ideal S1x128 .f32)
    (y : S1x4096x128.Idx) :
    out0_9 (F := Ideal) x0 x1 x2 x3 x4 x5 x6 x7 x8 y = blockVal x0 x1 x2 x3 x4 x5 x6 x7 x8 (y 1) (y 2) := by
  unfold_out out0_9
  refine View.canon_apply_of_pieces (Val := Elt Ideal) (fun y => blockVal x0 x1 x2 x3 x4 x5 x6 x7 x8 (y 1) (y 2)) _ ?_ y
    (cover0_9 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact fun x => chunk_piece x0 x1 x2 x3 x4 x5 x6 x7 x8 15 3840 (by norm_num) rfl slices_S128x4096_o0_3840_S128x256 slices_S16x128_o15_0_S1x128
      inb_S1x4096x128_S1x256x128_0_3840_0 x
  · exact fun x => chunk_piece x0 x1 x2 x3 x4 x5 x6 x7 x8 14 3584 (by norm_num) rfl slices_S128x4096_o0_3584_S128x256 slices_S16x128_o14_0_S1x128
      inb_S1x4096x128_S1x256x128_0_3584_0 x
  · exact fun x => chunk_piece x0 x1 x2 x3 x4 x5 x6 x7 x8 13 3328 (by norm_num) rfl slices_S128x4096_o0_3328_S128x256 slices_S16x128_o13_0_S1x128
      inb_S1x4096x128_S1x256x128_0_3328_0 x
  · exact fun x => chunk_piece x0 x1 x2 x3 x4 x5 x6 x7 x8 12 3072 (by norm_num) rfl slices_S128x4096_o0_3072_S128x256 slices_S16x128_o12_0_S1x128
      inb_S1x4096x128_S1x256x128_0_3072_0 x
  · exact fun x => chunk_piece x0 x1 x2 x3 x4 x5 x6 x7 x8 11 2816 (by norm_num) rfl slices_S128x4096_o0_2816_S128x256 slices_S16x128_o11_0_S1x128
      inb_S1x4096x128_S1x256x128_0_2816_0 x
  · exact fun x => chunk_piece x0 x1 x2 x3 x4 x5 x6 x7 x8 10 2560 (by norm_num) rfl slices_S128x4096_o0_2560_S128x256 slices_S16x128_o10_0_S1x128
      inb_S1x4096x128_S1x256x128_0_2560_0 x
  · exact fun x => chunk_piece x0 x1 x2 x3 x4 x5 x6 x7 x8 9 2304 (by norm_num) rfl slices_S128x4096_o0_2304_S128x256 slices_S16x128_o9_0_S1x128
      inb_S1x4096x128_S1x256x128_0_2304_0 x
  · exact fun x => chunk_piece x0 x1 x2 x3 x4 x5 x6 x7 x8 8 2048 (by norm_num) rfl slices_S128x4096_o0_2048_S128x256 slices_S16x128_o8_0_S1x128
      inb_S1x4096x128_S1x256x128_0_2048_0 x
  · exact fun x => chunk_piece x0 x1 x2 x3 x4 x5 x6 x7 x8 7 1792 (by norm_num) rfl slices_S128x4096_o0_1792_S128x256 slices_S16x128_o7_0_S1x128
      inb_S1x4096x128_S1x256x128_0_1792_0 x
  · exact fun x => chunk_piece x0 x1 x2 x3 x4 x5 x6 x7 x8 6 1536 (by norm_num) rfl slices_S128x4096_o0_1536_S128x256 slices_S16x128_o6_0_S1x128
      inb_S1x4096x128_S1x256x128_0_1536_0 x
  · exact fun x => chunk_piece x0 x1 x2 x3 x4 x5 x6 x7 x8 5 1280 (by norm_num) rfl slices_S128x4096_o0_1280_S128x256 slices_S16x128_o5_0_S1x128
      inb_S1x4096x128_S1x256x128_0_1280_0 x
  · exact fun x => chunk_piece x0 x1 x2 x3 x4 x5 x6 x7 x8 4 1024 (by norm_num) rfl slices_S128x4096_o0_1024_S128x256 slices_S16x128_o4_0_S1x128
      inb_S1x4096x128_S1x256x128_0_1024_0 x
  · exact fun x => chunk_piece x0 x1 x2 x3 x4 x5 x6 x7 x8 3 768 (by norm_num) rfl slices_S128x4096_o0_768_S128x256 slices_S16x128_o3_0_S1x128
      inb_S1x4096x128_S1x256x128_0_768_0 x
  · exact fun x => chunk_piece x0 x1 x2 x3 x4 x5 x6 x7 x8 2 512 (by norm_num) rfl slices_S128x4096_o0_512_S128x256 slices_S16x128_o2_0_S1x128
      inb_S1x4096x128_S1x256x128_0_512_0 x
  · exact fun x => chunk_piece x0 x1 x2 x3 x4 x5 x6 x7 x8 1 256 (by norm_num) rfl slices_S128x4096_o0_256_S128x256 slices_S16x128_o1_0_S1x128
      inb_S1x4096x128_S1x256x128_0_256_0 x
  · exact fun x => chunk_piece x0 x1 x2 x3 x4 x5 x6 x7 x8 0 0 (by norm_num) rfl slices_S128x4096_o0_0_S128x256 slices_S16x128_o0_0_S1x128
      inb_S1x4096x128_S1x256x128_0_0_0 x

end Cert.Pcen.Kernel

end
-- ==== Proof.KernelValue.lean ====
/-
  What the kernel's result array holds.  The grid has one step per batch row: step `b` reads row `b` of the input
  and the whole of every table, and writes row `b` of the result.  So the result array at `(b, t, f)` is the block
  function of `KernelBlock` at `(t, f)`, fed with row `b` of the input.
-/
module

public import proofs.«01_k».proof.Proof.KernelBlock
public import proofs.«01_k».proof.Proof.Gen.KernelIdeal.Value
public import Idealize.ShloMosaic.Lib.Pipeline.Value

@[expose] public section

noncomputable section

namespace Cert.Pcen.Kernel

open Cert.KernelIdeal Cert.KernelIdeal.Gen Idealize.ShloMosaic Idealize.ShloMosaic.TcCoe Idealize.SL.Sem
open Idealize.ShloMosaic.Pointwise
open Idealize.ShloMosaic.Pipeline (Dat)

variable (m : (ℓ : Loc nD τ sig) → Buf (Elt Ideal) ℓ) (ρ : Dev nD → PrngReg)

/-- Row `b` of a three-dimensional array, kept as a block of height one. -/
def rowOf (x : Vec Ideal S32x128x4096 .f32) (b : Fin 32) : Vec Ideal S1x128x4096 .f32 :=
  fun y => x (ix3 b (y 1) (y 2))

/-- Which block each window reads at a grid step: the input and the result move with the step, the tables stay. -/
theorem idx_facts : ∀ t : Fin cfg0.N,
    win0_0.index t 0 = t.val ∧ win0_0.index t 1 = 0 ∧ win0_0.index t 2 = 0
      ∧ win0_9.index t 0 = t.val ∧ win0_9.index t 1 = 0 ∧ win0_9.index t 2 = 0 :=
  (by decide +kernel : ∀ t : Fin grid0.N, _)

/-- The table windows always read the block at the origin. -/
theorem idx_tables : ∀ t : Fin cfg0.N,
    (win0_1.index t 0 = 0 ∧ win0_1.index t 1 = 0) ∧ (win0_2.index t 0 = 0 ∧ win0_2.index t 1 = 0)
      ∧ (win0_3.index t 0 = 0 ∧ win0_3.index t 1 = 0) ∧ (win0_4.index t 0 = 0 ∧ win0_4.index t 1 = 0)
      ∧ (win0_5.index t 0 = 0 ∧ win0_5.index t 1 = 0) ∧ (win0_6.index t 0 = 0 ∧ win0_6.index t 1 = 0)
      ∧ (win0_7.index t 0 = 0 ∧ win0_7.index t 1 = 0) ∧ (win0_8.index t 0 = 0 ∧ win0_8.index t 1 = 0) :=
  (by decide +kernel : ∀ t : Fin grid0.N, _)

/-- The step as a batch row. -/
def row (t : Fin cfg0.N) : Fin 32 := ⟨t.val, t.isLt.trans_eq N_0⟩

/-- The input block at a step is that row of the input. -/
theorem iblk0_eq (c : Dev nD) (t : Fin cfg0.N) : iblk m c 0 t = rowOf (V m c main_v95) (row t) := by
  obtain ⟨e0, e1, e2, -⟩ := idx_facts t
  funext j
  show V m c main_v95 (((cfg0.win 0).blk t).view.emb j) = V m c main_v95 (ix3 (row t) (j 1) (j 2))
  congr 1
  funext a; apply Fin.ext
  have h0 : (j 0).val < 1 := (j 0).isLt
  match a with
  | ⟨0, _⟩ => show win0_0.index t (0 : Fin 3) * 1 + 1 * (j 0).val = t.val; omega
  | ⟨1, _⟩ => show win0_0.index t (1 : Fin 3) * 128 + 1 * (j 1).val = (j 1).val; omega
  | ⟨2, _⟩ => show win0_0.index t (2 : Fin 3) * 4096 + 1 * (j 2).val = (j 2).val; omega

/-- Table window 1 reads its whole array. -/
theorem iblk1_eq (c : Dev nD) (t : Fin cfg0.N) : iblk m c 1 t = V m c main_v26 := by
  obtain ⟨e0, e1⟩ := (idx_tables t).1
  funext j
  show V m c main_v26 (((cfg0.win 1).blk t).view.emb j) = V m c main_v26 j
  congr 1
  funext a; apply Fin.ext
  match a with
  | ⟨0, _⟩ => show win0_1.index t (0 : Fin 2) * 256 + 1 * (j 0).val = (j 0).val; omega
  | ⟨1, _⟩ => show win0_1.index t (1 : Fin 2) * 256 + 1 * (j 1).val = (j 1).val; omega

/-- Table window 2 reads its whole array. -/
theorem iblk2_eq (c : Dev nD) (t : Fin cfg0.N) : iblk m c 2 t = V m c main_v34 := by
  obtain ⟨e0, e1⟩ := (idx_tables t).2.1
  funext j
  show V m c main_v34 (((cfg0.win 2).blk t).view.emb j) = V m c main_v34 j
  congr 1
  funext a; apply Fin.ext
  match a with
  | ⟨0, _⟩ => show win0_2.index t (0 : Fin 2) * 256 + 1 * (j 0).val = (j 0).val; omega
  | ⟨1, _⟩ => show win0_2.index t (1 : Fin 2) * 1 + 1 * (j 1).val = (j 1).val; omega

/-- Table window 3 reads its whole array. -/
theorem iblk3_eq (c : Dev nD) (t : Fin cfg0.N) : iblk m c 3 t = V m c main_v68 := by
  obtain ⟨e0, e1⟩ := (idx_tables t).2.2.1
  funext j
  show V m c main_v68 (((cfg0.win 3).blk t).view.emb j) = V m c main_v68 j
  congr 1
  funext a; apply Fin.ext
  match a with
  | ⟨0, _⟩ => show win0_3.index t (0 : Fin 2) * 4096 + 1 * (j 0).val = (j 0).val; omega
  | ⟨1, _⟩ => show win0_3.index t (1 : Fin 2) * 17 + 1 * (j 1).val = (j 1).val; omega

/-- Table window 4 reads its whole array. -/
theorem iblk4_eq (c : Dev nD) (t : Fin cfg0.N) : iblk m c 4 t = V m c main_v84 := by
  obtain ⟨e0, e1⟩ := (idx_tables t).2.2.2.1
  funext j
  show V m c main_v84 (((cfg0.win 4).blk t).view.emb j) = V m c main_v84 j
  congr 1
  funext a; apply Fin.ext
  match a with
  | ⟨0, _⟩ => show win0_4.index t (0 : Fin 2) * 17 + 1 * (j 0).val = (j 0).val; omega
  | ⟨1, _⟩ => show win0_4.index t (1 : Fin 2) * 16 + 1 * (j 1).val = (j 1).val; omega

/-- Parameter window 5 reads its whole array. -/
theorem iblk5_eq (c : Dev nD) (t : Fin cfg0.N) : iblk m c 5 t = V m c main_v87 := by
  obtain ⟨e0, e1⟩ := (idx_tables t).2.2.2.2.1
  funext j
  show V m c main_v87 (((cfg0.win 5).blk t).view.emb j) = V m c main_v87 j
  congr 1
  funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

/-- Parameter window 6 reads its whole array. -/
theorem iblk6_eq (c : Dev nD) (t : Fin cfg0.N) : iblk m c 6 t = V m c main_v89 := by
  obtain ⟨e0, e1⟩ := (idx_tables t).2.2.2.2.2.1
  funext j
  show V m c main_v89 (((cfg0.win 6).blk t).view.emb j) = V m c main_v89 j
  congr 1
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- Parameter window 7 reads its whole array. -/
theorem iblk7_eq (c : Dev nD) (t : Fin cfg0.N) : iblk m c 7 t = V m c main_v91 := by
  obtain ⟨e0, e1⟩ := (idx_tables t).2.2.2.2.2.2.1
  funext j
  show V m c main_v91 (((cfg0.win 7).blk t).view.emb j) = V m c main_v91 j
  congr 1
  funext a; apply Fin.ext
  match a with
  | ⟨0, _⟩ => show win0_7.index t (0 : Fin 2) * 1 + 1 * (j 0).val = (j 0).val; omega
  | ⟨1, _⟩ => show win0_7.index t (1 : Fin 2) * 128 + 1 * (j 1).val = (j 1).val; omega

/-- Parameter window 8 reads its whole array. -/
theorem iblk8_eq (c : Dev nD) (t : Fin cfg0.N) : iblk m c 8 t = V m c main_v94 := by
  obtain ⟨e0, e1⟩ := (idx_tables t).2.2.2.2.2.2.2
  funext j
  show V m c main_v94 (((cfg0.win 8).blk t).view.emb j) = V m c main_v94 j
  congr 1
  funext a; apply Fin.ext
  match a with
  | ⟨0, _⟩ => show win0_8.index t (0 : Fin 2) * 1 + 1 * (j 0).val = (j 0).val; omega
  | ⟨1, _⟩ => show win0_8.index t (1 : Fin 2) * 128 + 1 * (j 1).val = (j 1).val; omega

/-- The kernel's result array, from the arrays its windows read. -/
def result (c : Dev nD) : Vec Ideal S32x4096x128 .f32 := fun y =>
  blockVal (rowOf (V m c main_v95) (y 0)) (V m c main_v26) (V m c main_v34) (V m c main_v68) (V m c main_v84)
    (V m c main_v87) (V m c main_v89) (V m c main_v91) (V m c main_v94) (y 1) (y 2)

/-- Where the block of step `t` lies in the result: row `t`. -/
theorem emb9 (t : Fin cfg0.N) (j : S1x4096x128.Idx) :
    ((cfg0.win 9).blk t).view.emb j = (ix3 (row t) (j 1) (j 2) : S32x4096x128.Idx) := by
  obtain ⟨-, -, -, e0, e1, e2⟩ := idx_facts t
  funext a; apply Fin.ext
  have h0 : (j 0).val < 1 := (j 0).isLt
  match a with
  | ⟨0, _⟩ => show win0_9.index t (0 : Fin 3) * 1 + 1 * (j 0).val = t.val; omega
  | ⟨1, _⟩ => show win0_9.index t (1 : Fin 3) * 4096 + 1 * (j 1).val = (j 1).val; omega
  | ⟨2, _⟩ => show win0_9.index t (2 : Fin 3) * 128 + 1 * (j 2).val = (j 2).val; omega

/-- What step `t` writes back is row `t` of `result`. -/
theorem flushed_eq (c : Dev nD) (t : Fin cfg0.N) :
    (dats m 0 c).flushed 9 t = ((cfg0.win 9).blk t).view.read (Elt Ideal) (result m c) := by
  rw [Value.flushed9, iblk0_eq, iblk1_eq, iblk2_eq, iblk3_eq, iblk4_eq, iblk5_eq, iblk6_eq, iblk7_eq, iblk8_eq]
  funext j
  show out0_9 (F := Ideal) _ _ _ _ _ _ _ _ _ j = result m c (((cfg0.win 9).blk t).view.emb j)
  rw [emb9, out_apply]
  rfl

/-- Every index of the result is in the block of its row's step. -/
theorem cover (i : S32x4096x128.Idx) :
    ∃ t : Fin cfg0.N, (cfg0.win 9).flush t = true ∧ i ∈ ((cfg0.win 9).blk t).view.set := by
  refine ⟨⟨(i 0).val, (i 0).isLt.trans_eq N_0.symm⟩, flush0_9 _, ?_⟩
  have h := ((cfg0.win 9).blk ⟨(i 0).val, (i 0).isLt.trans_eq N_0.symm⟩).view.emb_mem_set
    (ix3 (0 : Fin 1) (i 1) (i 2) : S1x4096x128.Idx)
  rw [emb9] at h
  have e : (ix3 (row ⟨(i 0).val, (i 0).isLt.trans_eq N_0.symm⟩) (i 1) (i 2) : S32x4096x128.Idx) = i :=
    (eq_ix3 i).symm
  exact e ▸ h

/-- The kernel's result array after the run. -/
theorem final (c : Dev nD) : (dats m 0 c).arrAt 9 cfg0.N = result m c :=
  (dats m 0 c).arrAt_eq_of_cover 9 (result m c) (fun t _ => flushed_eq m c t) cover

end Cert.Pcen.Kernel

end
-- ==== Proof.RefLoop.lean ====
/-
  The reference's loop.  Trip `k` reads sample `k + 1` of every row, moves the smoother one step, and writes it to
  row `k` of the stack.  So after the last trip the stack holds the smoother at every sample but the first.
-/
module

public import proofs.«01_k».proof.Proof.Gen.ReferenceIdeal.Run
public import Idealize.ShloMosaic.Lib.DynamicIndex
public import Idealize.ShloMosaic.Lib.Pipeline.Value
public import Idealize.ShloMosaic.Lib.StableHlo.RunRead
public import Idealize.ShloMosaic.Lib.Pointwise

@[expose] public section

noncomputable section

namespace Cert.Pcen.Ref

open Cert.ReferenceIdeal Cert.ReferenceIdeal.Gen Cert.ReferenceIdeal.Value Idealize.ShloMosaic Idealize.ShloMosaic.TcCoe
open Idealize.SL.Sem Idealize.ShloMosaic.StableHlo Idealize.ShloMosaic.Pointwise

/-! ## Reading and writing one row of the stack -/

/-- The row a trip reads: the dynamic slice at the counter. -/
theorem slice_row (x : FVec Ideal S4095x32x1x128 .f32) (k : ℕ) (hk : k < 4095) (st : Fin 4 → ℤ)
    (hs : ∀ a, st a = ((![k, 0, 0, 0] : Fin 4 → ℕ) a : ℤ)) (b : Fin 32) (f : Fin 128) :
    shapeCast S32x1x128 (Host.dynamicSlice S1x32x1x128 x st sliceFits_S4095x32x1x128_S1x32x1x128)
      shapeCasts_S1x32x1x128_S32x1x128 (ix3 b 0 f) = x (ix4 ⟨k, hk⟩ b 0 f) := by
  have hoff : S4095x32x1x128.Slices ![k, 0, 0, 0] S1x32x1x128 := by
    refine ⟨rfl, fun a => ?_⟩
    match a with
    | ⟨0, _⟩ => show k + 1 ≤ 4095; omega
    | ⟨1, _⟩ => show 0 + 32 ≤ 32; omega
    | ⟨2, _⟩ => show 0 + 1 ≤ 1; omega
    | ⟨3, _⟩ => show 0 + 128 ≤ 128; omega
  rw [Host.dynamicSlice_eq_extractStridedSlice S1x32x1x128 x st ![k, 0, 0, 0] _ hoff hs]
  pointwise

/-- The stack after a trip: the counter's row replaced, the others kept. -/
theorem update_row (x : FVec Ideal S4095x32x1x128 .f32) (v : FVec Ideal S32x1x128 .f32) (k : ℕ) (hk : k < 4095)
    (st : Fin 4 → ℤ) (hs : ∀ a, st a = ((![k, 0, 0, 0] : Fin 4 → ℕ) a : ℤ)) (r : Fin 4095) (b : Fin 32)
    (f : Fin 128) :
    Host.dynamicUpdateSlice x (broadcastInDim S1x32x1x128 ![1, 2, 3] bcast_S32x1x128_S1x32x1x128_1_2_3 v) st
      updateFits_S4095x32x1x128_S1x32x1x128 (ix4 r b 0 f) = if r.val = k then v (ix3 b 0 f) else x (ix4 r b 0 f) := by
  have hoff : S4095x32x1x128.Slices ![k, 0, 0, 0] S1x32x1x128 := by
    refine ⟨rfl, fun a => ?_⟩
    match a with
    | ⟨0, _⟩ => show k + 1 ≤ 4095; omega
    | ⟨1, _⟩ => show 0 + 32 ≤ 32; omega
    | ⟨2, _⟩ => show 0 + 1 ≤ 1; omega
    | ⟨3, _⟩ => show 0 + 128 ≤ 128; omega
  rw [Host.dynamicUpdateSlice_eq_updateSlice x _ st _ ![k, 0, 0, 0]
    (fun a => by have := hoff.2 a; rw [hs a]; omega) hoff]
  pointwise
  by_cases h : r.val = k
  · rw [if_pos h, dif_pos (by omega)]
  · rw [if_neg h, dif_neg (by omega)]

/-- One step of the smoother, as the body computes it. -/
theorem step_apply (u v : FVec Ideal S32x1x128 .f32) (b : Fin 32) (f : Fin 128) :
    (addf (mulf (broadcastInDim S32x1x128 ![] bcast_S_S32x1x128
          (subf (constant S_ .f32 0x3F800000#32) (constant S_ .f32 0x3B7F8020#32))) u)
        (mulf (broadcastInDim S32x1x128 ![] bcast_S_S32x1x128 (constant S_ .f32 0x3B7F8020#32)) v) :
          FVec Ideal S32x1x128 .f32) (ix3 b 0 f)
      = (1 - Ideal.ofBits .f32 0x3B7F8020#32) * u (ix3 b 0 f) + Ideal.ofBits .f32 0x3B7F8020#32 * v (ix3 b 0 f) := by
  pointwise

/-! ## The smoother -/

/-- The samples of one row and feature, as a sequence. -/
def samples (x : FVec Ideal S32x1x128x4096 .f32) (b : Fin 32) (f : Fin 128) (t : ℕ) : EReal :=
  if h : t < 4096 then x (ix4 b 0 f ⟨t, h⟩) else 0

/-- The smoother of one row and feature: the first sample, then one weighted step per sample. -/
def smoother (x : FVec Ideal S32x1x128x4096 .f32) (b : Fin 32) (f : Fin 128) : ℕ → EReal
  | 0 => samples x b f 0
  | t + 1 => (1 - Ideal.ofBits .f32 0x3B7F8020#32) * smoother x b f t
      + Ideal.ofBits .f32 0x3B7F8020#32 * samples x b f (t + 1)

variable (m : (ℓ : Loc nD τ sig) → Buf (Elt Ideal) ℓ)

/-- The input array. -/
abbrev inp (c : Dev nD) : FVec Ideal S32x1x128x4096 .f32 := m ((c : Thread nD τ).loc main_arg0)

/-! ## The loop's entry -/

/-- The samples the loop reads: all but the first, the time axis leading. -/
theorem entry_xs (c : Dev nD) (k : Fin 4095) (b : Fin 32) (f : Fin 128) :
    entryContents preI m c (Proc.devRef .tc main_v11_0) (ix4 k b 0 f) = samples (inp m c) b f (k.val + 1) := by
  simp only [entryContents, afterL_cons, afterL_nil]
  after_reads_simp
  simp only [id]
  pointwise
  unfold samples
  rw [dif_pos (by omega)]
  exact congrArg (fun i => inp m c (ix4 b 0 f i)) (Fin.ext (Nat.add_comm 1 _))

/-- The coefficient the loop carries. -/
theorem entry_s (c : Dev nD) : entryContents preI m c (Proc.devRef .tc main_v11_1) = (constant S_ .f32 0x3B7F8020#32 : FVec Ideal S_ .f32) := by
  simp only [entryContents, afterL_cons, afterL_nil]
  after_reads_simp
  rfl

/-- The smoother the loop starts from. -/
theorem entry_carry (c : Dev nD) (b : Fin 32) (f : Fin 128) :
    entryContents preI m c (Proc.devRef .tc main_v11_3) (ix3 b 0 f) = samples (inp m c) b f 0 := by
  simp only [entryContents, afterL_cons, afterL_nil]
  after_reads_simp
  simp only [id]
  pointwise
  rfl

/-! ## The trips -/

/-- The counter's block offsets. -/
theorem starts_eq (k : ℕ) (hk : k ≤ 4095) (v : IVec S_ 32) (hv : v = fun _ => Scf.iv 0#32 1#32 k) (a : Fin 4) :
    (((![v, constantI S_ 32 0#32, constantI S_ 32 0#32, constantI S_ 32 0#32] : Fin 4 → IVec S_ 32)) a
      (Shape.Idx.first h_S_)).toInt = ((![k, 0, 0, 0] : Fin 4 → ℕ) a : ℤ) := by
  subst hv
  match a with
  | ⟨0, _⟩ =>
    show (Scf.iv 0#32 1#32 k).toInt = (k : ℤ)
    rw [Scf.toInt_iv (ub := 4095#32) (by decide) (show k ≤ Scf.trips 0#32 4095#32 1#32 from hk)]
    simp
  | ⟨1, _⟩ => rfl
  | ⟨2, _⟩ => rfl
  | ⟨3, _⟩ => rfl

/-- Before trip `k` the carried smoother is at sample `k`, and the rows before row `k` of the stack hold the smoother at the samples after the first. -/
theorem loop_invariant (c : Dev nD) (k : ℕ) (hk : k ≤ 4095) :
    (∀ (r : Fin 4095) (b : Fin 32) (f : Fin 128),
        atK m k c (Proc.devRef .tc main_v11_0) (ix4 r b 0 f) = samples (inp m c) b f (r.val + 1))
      ∧ atK m k c (Proc.devRef .tc main_v11_1) = (constant S_ .f32 0x3B7F8020#32 : FVec Ideal S_ .f32)
      ∧ (∀ (b : Fin 32) (f : Fin 128), atK m k c (Proc.devRef .tc main_v11_3) (ix3 b 0 f) = smoother (inp m c) b f k)
      ∧ (∀ (r : Fin 4095), r.val < k → ∀ (b : Fin 32) (f : Fin 128),
        atK m k c (Proc.devRef .tc main_v11_4) (ix4 r b 0 f) = smoother (inp m c) b f (r.val + 1)) := by
  induction k with
  | zero => exact ⟨entry_xs m c, entry_s m c, entry_carry m c, fun r hr => absurd hr (Nat.not_lt_zero _)⟩
  | succ k ih =>
    obtain ⟨hx, hs, hc, hm⟩ := ih (by omega)
    have ha := trip_agree (atK m k c)
    have hst := starts_eq k (by omega) _ (atK_ctr m c k)
    have hres : ∀ (b : Fin 32) (f : Fin 128),
        res_main_while0b_v45 (atK m k c) (ix3 b 0 f) = smoother (inp m c) b f (k + 1) := by
      intro b f
      have hrow := slice_row (atK m k c (Proc.devRef .tc main_v11_0)) k (by omega) _ hst b f
      rw [hx] at hrow
      unfold res_main_while0b_v45
      rw [hs]
      refine (step_apply _ _ b f).trans ?_
      rw [hc]
      exact congrArg (fun y : EReal => (1 - Ideal.ofBits .f32 0x3B7F8020#32) * smoother (inp m c) b f k
        + Ideal.ofBits .f32 0x3B7F8020#32 * y) hrow
    refine ⟨fun r b f => ?_, ?_, fun b f => ?_, fun r hr b f => ?_⟩
    · rw [← hx]
      exact congrFun ((ha main_v11_0 (by decide)).trans (STEP_main_v11_0 _)) _
    · rw [← hs]
      exact (ha main_v11_1 (by decide)).trans (STEP_main_v11_1 _)
    · rw [← hres]
      exact congrFun ((ha main_v11_3 (by decide)).trans (STEP_main_v11_3 _)) _
    · refine (congrFun ((ha main_v11_4 (by decide)).trans (STEP_main_v11_4 _)) _).trans ?_
      refine (update_row (atK m k c (Proc.devRef .tc main_v11_4)) (res_main_while0b_v45 (atK m k c)) k (by omega) _ hst
        r b f).trans ?_
      by_cases h : r.val = k
      · rw [if_pos h, hres, h]
      · rw [if_neg h, hm r (by omega)]

/-- After the loop, the stack. -/
theorem stack_eq (c : Dev nD) (r : Fin 4095) (b : Fin 32) (f : Fin 128) :
    atK m 4095 c (Proc.devRef .tc main_v11_4) (ix4 r b 0 f) = smoother (inp m c) b f (r.val + 1) :=
  (loop_invariant m c 4095 le_rfl).2.2.2 r r.isLt b f

/-- A buffer that neither the condition nor the body writes is after any number of trips as before the loop. -/
theorem atK_keep (c : Dev nD) (r : Ref sig .tc) (hc : r ∉ condOps_W) (h0 : r ∉ while0Ops0_W) (h1 : r ∉ while0Ops0_1_W)
    (h2 : r ∉ while0Ops0_2_W) (h3 : r ∉ while0Ops0_3_W) (k : ℕ) :
    atK m k c (Proc.devRef .tc r) = entryContents preI m c (Proc.devRef .tc r) := by
  induction k with
  | zero => rfl
  | succ k ih =>
    rw [show atK m (k + 1) c = afterL bodyI (after condOps (atK m k c)) from rfl]
    simp only [afterL_cons, afterL_nil]
    rw [after_of_writes_sub _ _ while0Ops0_3_writes h3, after_of_writes_sub _ _ while0Ops0_2_writes h2,
      after_of_writes_sub _ _ while0Ops0_1_writes h1, after_of_writes_sub _ _ while0Ops0_writes h0,
      after_of_writes_sub _ _ condOps_writes hc]
    exact ih

end Cert.Pcen.Ref

end
-- ==== Proof.RefValue.lean ====
/-
  What the reference returns.  After the loop the stack is put behind the first sample, so the smoother is known at
  every sample; the rest is one scalar expression of the sample, the smoother and the parameters.
-/
module

public import proofs.«01_k».proof.Proof.RefLoop

@[expose] public section

noncomputable section

namespace Cert.Pcen.Ref

open Cert.ReferenceIdeal Cert.ReferenceIdeal.Gen Cert.ReferenceIdeal.Value Idealize.ShloMosaic Idealize.ShloMosaic.TcCoe
open Idealize.SL.Sem Idealize.ShloMosaic.StableHlo Idealize.ShloMosaic.Pointwise

/-- A parameter's column, spread over the whole array. -/
def spread (v : FVec Ideal S128x1 .f32) : FVec Ideal S32x1x128x4096 .f32 :=
  broadcastInDim S32x1x128x4096 ![0, 1, 2, 3] bcast_S1x1x128x1_S32x1x128x4096_0_1_2_3
    (broadcastInDim S1x1x128x1 ![2, 3] bcast_S128x1_S1x1x128x1_2_3 v)

/-- A number, spread over the whole array. -/
def fill (v : FVec Ideal S_ .f32) : FVec Ideal S32x1x128x4096 .f32 :=
  broadcastInDim S32x1x128x4096 ![] bcast_S_S32x1x128x4096 v

/-- The smoother over the whole array: the first sample, then the stack, the time axis moved last. -/
def smooth (xt : FVec Ideal S4096x32x1x128 .f32) (st : FVec Ideal S4095x32x1x128 .f32) : FVec Ideal S32x1x128x4096 .f32 :=
  transpose S32x1x128x4096 [1, 2, 3, 0]
    (concatenate S4096x32x1x128 0
      [⟨S1x32x1x128, extractStridedSlice S1x32x1x128 ![0, 0, 0, 0] xt slices_S4096x32x1x128_S1x32x1x128_0_0_0_0⟩,
        ⟨S4095x32x1x128, st⟩] concatenates_S1x32x1x128_S4095x32x1x128_S4096x32x1x128_d0)
    transposes_S4096x32x1x128_S32x1x128x4096_1_2_3_0

/-- The compression of the whole array, and the result's layout. -/
def finish (x sm : FVec Ideal S32x1x128x4096 .f32) (a d r : FVec Ideal S128x1 .f32) : FVec Ideal S32x4096x128 .f32 :=
  shapeCast S32x4096x128
    (transpose S32x1x4096x128 [0, 1, 3, 2]
      (subf
        (Host.powf
          (addf
            (mulf x
              (Host.exp
                (mulf (spread (Host.negf a))
                  (addf (fill (Host.log (constant S_ .f32 0x3727C5AC#32)))
                    (Host.log1p (Host.divf sm (fill (constant S_ .f32 0x3727C5AC#32))))))))
            (spread d))
          (spread r))
        (spread (Host.powf d r)))
      transposes_S32x1x128x4096_S32x1x4096x128_0_1_3_2)
    shapeCasts_S32x1x4096x128_S32x4096x128

/-- The operations after the loop, from any contents. -/
theorem after_post (W : Valuation τ sig (Elt Ideal)) :
    after hostOps0_1 W (Proc.devRef .tc main_v38)
      = finish (W (Proc.devRef .tc main_arg0)) (smooth (W (Proc.devRef .tc main_v6)) (W (Proc.devRef .tc main_v11_4)))
          (W (Proc.devRef .tc main_v1)) (W (Proc.devRef .tc main_v3)) (W (Proc.devRef .tc main_v5)) := by
  after_reads_simp
  rfl

/-- A parameter's column: the exponential, as a column. -/
def expCol (v : FVec Ideal S128 .f32) : FVec Ideal S128x1 .f32 :=
  broadcastInDim S128x1 ![0] bcast_S128_S128x1_0 (Host.exp v)

variable (m : (ℓ : Loc nD τ sig) → Buf (Elt Ideal) ℓ)

/-- The contents after the loop's last condition. -/
abbrev afterLoop (c : Dev nD) : Valuation τ sig (Elt Ideal) := after condOps (atK m 4095 c)

/-- A buffer the loop does not write. -/
theorem afterLoop_keep (c : Dev nD) (r : Ref sig .tc) (hc : r ∉ condOps_W) (h0 : r ∉ while0Ops0_W) (h1 : r ∉ while0Ops0_1_W)
    (h2 : r ∉ while0Ops0_2_W) (h3 : r ∉ while0Ops0_3_W) :
    afterLoop m c (Proc.devRef .tc r) = entryContents preI m c (Proc.devRef .tc r) :=
  (after_of_writes_sub _ _ condOps_writes hc).trans (atK_keep m c r hc h0 h1 h2 h3 4095)

/-- The input is untouched before the loop. -/
theorem entry_arg0 (c : Dev nD) : entryContents preI m c (Proc.devRef .tc main_arg0) = inp m c := by
  simp only [entryContents, afterL_cons, afterL_nil]
  after_reads_simp

/-- The input with the time axis first. -/
theorem entry_xt (c : Dev nD) : entryContents preI m c (Proc.devRef .tc main_v6)
    = transpose S4096x32x1x128 [3, 0, 1, 2] (inp m c) transposes_S32x1x128x4096_S4096x32x1x128_3_0_1_2 := by
  simp only [entryContents, afterL_cons, afterL_nil]
  after_reads_simp

/-- The exponents' column. -/
theorem entry_a (c : Dev nD) : entryContents preI m c (Proc.devRef .tc main_v1) = expCol (m ((c : Thread nD τ).loc main_arg1)) := by
  simp only [entryContents, afterL_cons, afterL_nil]
  after_reads_simp
  rfl

/-- The offsets' column. -/
theorem entry_d (c : Dev nD) : entryContents preI m c (Proc.devRef .tc main_v3) = expCol (m ((c : Thread nD τ).loc main_arg2)) := by
  simp only [entryContents, afterL_cons, afterL_nil]
  after_reads_simp
  rfl

/-- The roots' column. -/
theorem entry_r (c : Dev nD) : entryContents preI m c (Proc.devRef .tc main_v5) = expCol (m ((c : Thread nD τ).loc main_arg3)) := by
  simp only [entryContents, afterL_cons, afterL_nil]
  after_reads_simp
  rfl

/-- The reference's result array. -/
def result (c : Dev nD) : FVec Ideal S32x4096x128 .f32 :=
  finish (inp m c)
    (smooth (transpose S4096x32x1x128 [3, 0, 1, 2] (inp m c) transposes_S32x1x128x4096_S4096x32x1x128_3_0_1_2)
      (atK m 4095 c (Proc.devRef .tc main_v11_4)))
    (expCol (m ((c : Thread nD τ).loc main_arg1))) (expCol (m ((c : Thread nD τ).loc main_arg2)))
    (expCol (m ((c : Thread nD τ).loc main_arg3)))

/-- The result buffer at the end of the run. -/
theorem final_v38 (c : Dev nD) :
    finalContents condOps preI bodyI postI 4095 m c (Proc.devRef .tc main_v38) = result m c := by
  refine (after_post (afterLoop m c)).trans ?_
  rw [afterLoop_keep m c main_arg0 (by decide) (by decide) (by decide) (by decide) (by decide),
    afterLoop_keep m c main_v6 (by decide) (by decide) (by decide) (by decide) (by decide),
    afterLoop_keep m c main_v1 (by decide) (by decide) (by decide) (by decide) (by decide),
    afterLoop_keep m c main_v3 (by decide) (by decide) (by decide) (by decide) (by decide),
    afterLoop_keep m c main_v5 (by decide) (by decide) (by decide) (by decide) (by decide),
    entry_arg0, entry_xt, entry_a, entry_d, entry_r]
  rw [show afterLoop m c (Proc.devRef .tc main_v11_4) = atK m 4095 c (Proc.devRef .tc main_v11_4) from
    after_of_writes_sub _ _ condOps_writes (by decide)]
  rfl

/-- The smoother over the whole array, at an index. -/
theorem smooth_apply (c : Dev nD) (b : Fin 32) (f : Fin 128) (t : Fin 4096) :
    smooth (transpose S4096x32x1x128 [3, 0, 1, 2] (inp m c) transposes_S32x1x128x4096_S4096x32x1x128_3_0_1_2)
      (atK m 4095 c (Proc.devRef .tc main_v11_4)) (ix4 b 0 f t) = smoother (inp m c) b f t.val := by
  pointwise [smooth]
  by_cases h : t.val < 1
  · have h0 : t.val = 0 := by omega
    rw [dif_pos h, h0]
    show _ = samples (inp m c) b f 0
    unfold samples
    rw [dif_pos (by omega)]
    exact congrArg (fun i => inp m c (ix4 b 0 f i)) (Fin.ext h0)
  · rw [dif_neg h, stack_eq]
    exact congrArg (smoother (inp m c) b f) (Nat.sub_add_cancel (by omega))

/-- One entry of the result, from the sample, the smoother and the three parameters. -/
def compress (x M al de r : EReal) : EReal :=
  Ideal.pow
      (x * Ideal.exp (-Ideal.exp al * (Ideal.log (Ideal.ofBits .f32 0x3727C5AC#32)
        + Ideal.log1p (Ideal.div M (Ideal.ofBits .f32 0x3727C5AC#32)))) + Ideal.exp de)
      (Ideal.exp r)
    - Ideal.pow (Ideal.exp de) (Ideal.exp r)

/-- The reference's result at an index. -/
theorem result_apply (c : Dev nD) (b : Fin 32) (t : Fin 4096) (f : Fin 128) :
    result m c (ix3 b t f) = compress (inp m c (ix4 b 0 f t)) (smoother (inp m c) b f t.val)
      (m ((c : Thread nD τ).loc main_arg1) (ix1 f)) (m ((c : Thread nD τ).loc main_arg2) (ix1 f))
      (m ((c : Thread nD τ).loc main_arg3) (ix1 f)) := by
  rw [← smooth_apply]
  pointwise [result, finish, spread, fill, expCol, compress]

end Cert.Pcen.Ref

end
-- ==== Proof.Scalar.lean ====
/-
  The scalar identities of the compression, over the extended reals: the logarithm of a shifted value split as
  the reference splits it, a power of a nonnegative base as an exponential of a multiple of its logarithm, a
  natural power of a positive base, and the values of the programs' float literals.
-/
module

public import Idealize.ShloMosaic.PureOps.Ideal
public import Idealize.ShloMosaic.Lib.IdealHost

@[expose] public section

noncomputable section

namespace Cert.Pcen

open Idealize.ShloMosaic

/-- For a positive real `e`, `log e + log1p (m / e)` is `log (m + e)`, whatever the extended real `m`. -/
theorem log_add_log1p_div {e : ℝ} (he : 0 < e) (m : EReal) :
    Ideal.log (e : EReal) + Ideal.log1p (Ideal.div m (e : EReal)) = Ideal.log (m + (e : EReal)) := by
  have hle : Ideal.log (e : EReal) = ((Real.log e : ℝ) : EReal) := by
    show (if e ≤ 0 then (⊥ : EReal) else (Real.log e : EReal)) = _
    rw [if_neg (not_le.mpr he)]
  rw [hle, Ideal.log1p, Ideal.div_coe he.ne']
  have hi : 0 < 1 / e := by positivity
  induction m with
  | bot =>
    rw [EReal.bot_mul_coe_of_pos hi, EReal.add_bot, EReal.bot_add]
    exact EReal.add_bot _
  | top =>
    rw [EReal.top_mul_coe_of_pos hi, EReal.top_add_coe]
    have h1 : (1 : EReal) + ⊤ = ⊤ := rfl
    rw [h1]
    exact EReal.coe_add_top _
  | coe r =>
    rw [← EReal.coe_mul, ← EReal.coe_one, ← EReal.coe_add, ← EReal.coe_add]
    have hk : (1 + r * (1 / e)) * e = r + e := by field_simp; ring
    show (Real.log e : EReal) + (if 1 + r * (1 / e) ≤ 0 then (⊥ : EReal) else (Real.log (1 + r * (1 / e)) : EReal))
      = if r + e ≤ 0 then (⊥ : EReal) else (Real.log (r + e) : EReal)
    by_cases h : r + e ≤ 0
    · have h' : 1 + r * (1 / e) ≤ 0 := by
        by_contra hc
        have : 0 < (1 + r * (1 / e)) * e := mul_pos (not_le.mp hc) he
        linarith
      rw [if_pos h, if_pos h']
      exact EReal.add_bot _
    · have h' : 0 < 1 + r * (1 / e) := by
        by_contra hc
        have : (1 + r * (1 / e)) * e ≤ 0 := mul_nonpos_of_nonpos_of_nonneg (not_lt.mp hc) he.le
        exact h (by linarith)
      rw [if_neg h, if_neg (not_le.mpr h'), ← EReal.coe_add, ← hk, Real.log_mul h'.ne' he.ne', add_comm]

/-- The logarithm undoes the exponential on all extended reals. -/
theorem log_exp (x : EReal) : Ideal.log (Ideal.exp x) = x := by
  induction x with
  | bot =>
    show (if (0 : ℝ) ≤ 0 then (⊥ : EReal) else _) = ⊥
    rw [if_pos le_rfl]
  | top => rfl
  | coe r =>
    show (if Real.exp r ≤ 0 then (⊥ : EReal) else (Real.log (Real.exp r) : EReal)) = _
    rw [if_neg (not_le.mpr (Real.exp_pos r)), Real.log_exp]

/-- The exponential is nonnegative. -/
theorem exp_nonneg (x : EReal) : 0 ≤ Ideal.exp x := by
  induction x with
  | bot => exact le_rfl
  | top => exact le_top
  | coe r => exact EReal.coe_nonneg.mpr (Real.exp_pos r).le

theorem exp_zero : Ideal.exp 0 = 1 := by
  show ((Real.exp 0 : ℝ) : EReal) = 1
  rw [Real.exp_zero, EReal.coe_one]

/-- A power of a nonnegative base to a nonnegative exponent is `exp (r · log u)`, infinities and zeros included. -/
theorem pow_eq_exp_mul_log (u r : EReal) (hu : 0 ≤ u) (hr : 0 ≤ r) :
    Ideal.pow u r = Ideal.exp (r * Ideal.log u) := by
  induction u with
  | bot => exact absurd hu (by simp)
  | top =>
    show (if 0 < r then (⊤ : EReal) else if r = 0 then 1 else 0) = Ideal.exp (r * ⊤)
    rcases hr.lt_or_eq with h | h
    · rw [if_pos h, EReal.mul_top_of_pos h]; rfl
    · rw [← h, if_neg (lt_irrefl _), if_pos rfl, zero_mul, exp_zero]
  | coe x =>
    have hx : 0 ≤ x := EReal.coe_nonneg.mp hu
    rcases hx.lt_or_eq with hx0 | hx0
    · have hl : Ideal.log (x : EReal) = ((Real.log x : ℝ) : EReal) := by
        show (if x ≤ 0 then (⊥ : EReal) else _) = _
        rw [if_neg (not_le.mpr hx0)]
      rw [hl]
      induction r with
      | bot => exact absurd hr (by simp)
      | top =>
        show (if x < 0 then (⊥ : EReal) else if 1 < x then ⊤ else if x = 1 then 1 else 0) = _
        rw [if_neg (not_lt.mpr hx)]
        rcases lt_trichotomy x 1 with h | h | h
        · rw [if_neg (not_lt.mpr h.le), if_neg h.ne, EReal.top_mul_coe_of_neg (Real.log_neg hx0 h)]; rfl
        · rw [if_neg (by rw [h]; exact lt_irrefl _), if_pos h, h, Real.log_one, EReal.coe_zero, mul_zero, exp_zero]
        · rw [if_pos h, EReal.top_mul_coe_of_pos (Real.log_pos h)]; rfl
      | coe y =>
        rw [← EReal.coe_mul]
        show ((Real.rpow x y : ℝ) : EReal) = ((Real.exp (y * Real.log x) : ℝ) : EReal)
        rw [mul_comm y]
        exact congrArg _ (Real.rpow_def_of_pos hx0 y)
    · subst hx0
      have hl : Ideal.log ((0 : ℝ) : EReal) = ⊥ := by
        show (if (0 : ℝ) ≤ 0 then (⊥ : EReal) else _) = _
        rw [if_pos le_rfl]
      rw [hl]
      induction r with
      | bot => exact absurd hr (by simp)
      | top =>
        show (if (0 : ℝ) < 0 then (⊥ : EReal) else if (1 : ℝ) < 0 then ⊤ else if (0 : ℝ) = 1 then 1 else 0) = _
        rw [if_neg (lt_irrefl _), if_neg (by norm_num), if_neg (by norm_num)]; rfl
      | coe y =>
        have hy : 0 ≤ y := EReal.coe_nonneg.mp hr
        show ((Real.rpow 0 y : ℝ) : EReal) = _
        rcases hy.lt_or_eq with h | h
        · rw [EReal.coe_mul_bot_of_pos h]
          show (((0 : ℝ) ^ y : ℝ) : EReal) = 0
          rw [Real.zero_rpow h.ne', EReal.coe_zero]
        · rw [← h, EReal.coe_zero, zero_mul, exp_zero]
          show (((0 : ℝ) ^ (0 : ℝ) : ℝ) : EReal) = 1
          rw [Real.rpow_zero, EReal.coe_one]

/-- The power of an exponential, `(exp δ) ^ r = exp (r · δ)` for `r` nonnegative. -/
theorem pow_exp (x r : EReal) (hr : 0 ≤ r) : Ideal.pow (Ideal.exp x) r = Ideal.exp (r * x) := by
  rw [pow_eq_exp_mul_log _ _ (exp_nonneg x) hr, log_exp]

/-- A real base to a natural exponent given as a real. -/
theorem pow_natCast (b : ℝ) (n : ℕ) : Ideal.pow (b : EReal) (((n : ℝ)) : EReal) = ((b ^ n : ℝ) : EReal) := by
  show ((Real.rpow b (n : ℝ) : ℝ) : EReal) = _
  exact congrArg _ (Real.rpow_natCast b n)

/-- The smoothing coefficient: the real number the literal denotes. -/
def sR : ℝ := 16744480 / 4294967296

/-- The complement of the smoothing coefficient. -/
def bR : ℝ := 1 - sR

/-- The offset of the smoother: the real number the literal denotes. -/
def epsR : ℝ := 10995116 / 1099511627776

theorem sR_pos : 0 < sR := by unfold sR; norm_num
theorem bR_pos : 0 < bR := by unfold bR sR; norm_num
theorem epsR_pos : 0 < epsR := by unfold epsR; norm_num

theorem ofBits_s : Ideal.ofBits .f32 0x3B7F8020#32 = ((sR : ℝ) : EReal) := by
  simp [Ideal.ofBits, Ideal.ieee, sR, -EReal.coe_mul]
  norm_num

theorem ofBits_eps : Ideal.ofBits .f32 0x3727C5AC#32 = ((epsR : ℝ) : EReal) := by
  simp [Ideal.ofBits, Ideal.ieee, epsR, -EReal.coe_mul]
  norm_num

end Cert.Pcen

end
-- ==== Proof.Recurrence.lean ====
/-
  The smoother's recurrence in a commutative semiring, and the blocked form of it: the state before every block by
  a recurrence over blocks, and the states within a block from the state before it. No program appears here.
-/
module

public import Mathlib.Algebra.BigOperators.Fin
public import Mathlib.Algebra.BigOperators.Ring.Finset
public import Mathlib.Algebra.BigOperators.Intervals
public import Mathlib.Tactic.Ring

@[expose] public section

namespace Cert.Pcen

open Finset

variable {R : Type*} [CommSemiring R]

/-- The state before step `t`: it starts at the first sample, and each step mixes in the next sample. -/
def state (s b : R) (x : ℕ → R) : ℕ → R
  | 0 => x 0
  | t + 1 => b * state s b x t + s * x t

/-- `i` steps on from step `n`: the old state decayed, and the samples in between weighted by their age. -/
theorem state_add (s b : R) (x : ℕ → R) (n i : ℕ) :
    state s b x (n + i) = (∑ k ∈ range i, s * b ^ (i - 1 - k) * x (n + k)) + b ^ i * state s b x n := by
  induction i with
  | zero => simp
  | succ i ih =>
    have e : state s b x (n + (i + 1)) = b * state s b x (n + i) + s * x (n + i) := rfl
    rw [e, ih, sum_range_succ, mul_add, mul_sum]
    have h : ∀ k ∈ range i, b * (s * b ^ (i - 1 - k) * x (n + k)) = s * b ^ (i + 1 - 1 - k) * x (n + k) := by
      intro k hk
      have hk' : k < i := mem_range.mp hk
      have : i + 1 - 1 - k = (i - 1 - k) + 1 := by omega
      rw [this, pow_succ]; ring
    rw [sum_congr rfl h]
    have : i + 1 - 1 - i = 0 := by omega
    rw [this, pow_zero, pow_succ]; ring

/-- The entry of the within-block table: the weight of sample `k` in the state after sample `i`. -/
def wIn (s b : R) (i k : ℕ) : R := if k ≤ i then s * b ^ (i - k) else 0

/-- The entry of the carry table's first factor: what sample `t` adds to block `j`'s augmented local sum. -/
def wOut (s b : R) (t j : ℕ) : R :=
  if t = 0 ∧ j = 0 then 1 else if t < j * 256 ∧ j * 256 ≤ t + 256 then s * b ^ (j * 256 - 1 - t) else 0

/-- The entry of the carry table's second factor: a power of the decay over one block. -/
def wCarry (b : R) (i j : ℕ) : R := if i ≤ j then (b ^ 256) ^ (j - i) else 0

/-- The local sum before block `0` is the first sample. -/
theorem local_zero (s b : R) (x : ℕ → R) :
    ∑ t : Fin 4096, x t * wOut s b t 0 = x 0 := by
  rw [Fin.sum_univ_eq_sum_range (fun t => x t * wOut s b t 0) 4096, sum_eq_single 0]
  · simp [wOut]
  · intro t _ ht
    simp [wOut, ht]
  · intro h; exact absurd (mem_range.mpr (by norm_num)) h

/-- The local sum of block `j`, which column `j + 1` of the table collects. -/
theorem local_succ (s b : R) (x : ℕ → R) (j : ℕ) (hj : j < 16) :
    ∑ t : Fin 4096, x t * wOut s b t (j + 1) = ∑ k ∈ range 256, s * b ^ (256 - 1 - k) * x (j * 256 + k) := by
  rw [Fin.sum_univ_eq_sum_range (fun t => x t * wOut s b t (j + 1)) 4096]
  have hsub : (Finset.Ico (j * 256) (j * 256 + 256)) ⊆ range 4096 := by
    intro t ht
    rw [mem_Ico] at ht
    exact mem_range.mpr (by omega)
  rw [← sum_subset hsub]
  · rw [sum_Ico_eq_sum_range, Nat.add_sub_cancel_left]
    refine sum_congr rfl fun k hk => ?_
    have hk' : k < 256 := mem_range.mp hk
    have h1 : ¬ (j * 256 + k = 0 ∧ j + 1 = 0) := by omega
    have h2 : j * 256 + k < (j + 1) * 256 ∧ (j + 1) * 256 ≤ j * 256 + k + 256 := by omega
    have h3 : (j + 1) * 256 - 1 - (j * 256 + k) = 256 - 1 - k := by omega
    rw [wOut, if_neg h1, if_pos h2, h3]; ring
  · intro t _ ht
    rw [mem_Ico] at ht
    have h1 : ¬ (t = 0 ∧ j + 1 = 0) := by omega
    have h2 : ¬ (t < (j + 1) * 256 ∧ (j + 1) * 256 ≤ t + 256) := by omega
    rw [wOut, if_neg h1, if_neg h2, mul_zero]

/-- The sum over the carry table's second factor obeys the recurrence over blocks. -/
theorem carry_sum (b : R) (l : ℕ → R) (C : ℕ → R) (h0 : C 0 = l 0)
    (hs : ∀ j, j < 16 → C (j + 1) = b ^ 256 * C j + l (j + 1)) (j : ℕ) (hj : j < 16) :
    ∑ i : Fin 17, l i * wCarry b i j = C j := by
  rw [Fin.sum_univ_eq_sum_range (fun i => l i * wCarry b i j) 17]
  have key : ∀ j, j < 16 → ∑ i ∈ range (j + 1), l i * (b ^ 256) ^ (j - i) = C j := by
    intro j
    induction j with
    | zero => intro _; simp [h0]
    | succ j ih =>
      intro hj
      rw [sum_range_succ, hs j (by omega), ← ih (by omega), mul_sum, Nat.sub_self, pow_zero, mul_one]
      congr 1
      refine sum_congr rfl fun i hi => ?_
      have hi' : i < j + 1 := mem_range.mp hi
      have : j + 1 - i = (j - i) + 1 := by omega
      rw [this, pow_succ]; ring
  rw [← key j hj]
  have hsub : range (j + 1) ⊆ range 17 := range_subset_range.mpr (by omega)
  rw [← sum_subset hsub]
  · refine sum_congr rfl fun i hi => ?_
    have hi' : i < j + 1 := mem_range.mp hi
    rw [wCarry, if_pos (by omega)]
  · intro i _ hi
    have hi' : ¬ i < j + 1 := fun h => hi (mem_range.mpr h)
    rw [wCarry, if_neg (by omega), mul_zero]

/-- The two products of the tables give the state before block `j`. -/
theorem carry_eq_state (s b : R) (x : ℕ → R) (j : ℕ) (hj : j < 16) :
    ∑ i : Fin 17, (∑ t : Fin 4096, x t * wOut s b t i) * wCarry b i j = state s b x (j * 256) := by
  refine carry_sum b (fun i => ∑ t : Fin 4096, x t * wOut s b t i) (fun j => state s b x (j * 256)) ?_ ?_ j hj
  · exact (local_zero s b x).symm
  · intro j hj
    have e : (j + 1) * 256 = j * 256 + 256 := by omega
    show state s b x ((j + 1) * 256) = _
    rw [e, state_add, add_comm]
    congr 1
    exact (local_succ s b x j hj).symm

/-- The smoothed value at step `j · 256 + i`, from the samples of its block and the two products of the tables. -/
theorem blocked_eq_state (s b : R) (x : ℕ → R) (j : ℕ) (hj : j < 16) (i : ℕ) (hi : i < 256) :
    (∑ k : Fin 256, wIn s b i k * x (j * 256 + k))
        + b ^ (i + 1) * ∑ l : Fin 17, (∑ t : Fin 4096, x t * wOut s b t l) * wCarry b l j
      = state s b x (j * 256 + i + 1) := by
  rw [carry_eq_state s b x j hj, add_assoc, state_add]
  congr 1
  rw [Fin.sum_univ_eq_sum_range (fun k => wIn s b i k * x (j * 256 + k)) 256]
  have hsub : range (i + 1) ⊆ range 256 := range_subset_range.mpr (by omega)
  rw [← sum_subset hsub]
  · refine sum_congr rfl fun k hk => ?_
    have hk' : k < i + 1 := mem_range.mp hk
    have : i + 1 - 1 - k = i - k := by omega
    rw [wIn, if_pos (by omega), this]
  · intro k _ hk
    have hk' : ¬ k < i + 1 := fun h => hk (mem_range.mpr h)
    rw [wIn, if_neg (by omega), zero_mul]

/-- A sequence that starts at the first sample and steps with the NEXT sample is the state after each step, when
    the two weights add up to one. -/
theorem seq_eq_state (s b : R) (hsb : b + s = 1) (x M : ℕ → R) (h0 : M 0 = x 0) (n : ℕ)
    (hs : ∀ t, t + 1 < n → M (t + 1) = b * M t + s * x (t + 1)) (t : ℕ) (ht : t < n) :
    M t = state s b x (t + 1) := by
  induction t with
  | zero =>
    show M 0 = b * x 0 + s * x 0
    rw [h0, ← add_mul, hsb, one_mul]
  | succ t ih =>
    rw [hs t ht, ih (by omega)]
    rfl

end Cert.Pcen

end
-- ==== Proof.TableEntries.lean ====
/-
  The scalar content of the tables: comparing, clamping and converting the differences of small row and column
  numbers, and raising the decay to them.  Every entry is a nonnegative real, so it is named as the image of an
  extended nonnegative real: that is the semiring in which the recurrence of `Recurrence` is solved.
-/
module

public import proofs.«01_k».proof.Proof.Scalar
public import proofs.«01_k».proof.Proof.Recurrence
public import Idealize.ShloMosaic.Lib.WordCmp
public import Mathlib.Data.ENNReal.Real

@[expose] public section

noncomputable section

namespace Cert.Pcen

open Idealize.ShloMosaic

/-- The smoothing coefficient as an extended nonnegative real. -/
def sN : ENNReal := ENNReal.ofReal sR

/-- The decay as an extended nonnegative real. -/
def bN : ENNReal := ENNReal.ofReal bR

/-- The two weights sum to one. -/
theorem bN_add_sN : bN + sN = 1 := by
  unfold bN sN
  rw [← ENNReal.ofReal_add bR_pos.le sR_pos.le]
  simp [bR]

/-- The literal of the smoothing coefficient. -/
theorem ofBits_s_eq : Ideal.ofBits .f32 0x3B7F8020#32 = ((sN : ENNReal) : EReal) := by
  rw [ofBits_s, sN, EReal.coe_ennreal_ofReal, max_eq_left sR_pos.le]

/-- One less the literal is the decay. -/
theorem one_sub_s_eq : (1 : EReal) - Ideal.ofBits .f32 0x3B7F8020#32 = ((bN : ENNReal) : EReal) := by
  rw [ofBits_s, bN, EReal.coe_ennreal_ofReal, max_eq_left bR_pos.le, bR, EReal.coe_sub]
  rfl

/-- A natural power of a positive real, computed by the host's power, is the power. -/
theorem pow_ofReal (b : ℝ) (hb : 0 ≤ b) (n : ℕ) :
    Ideal.pow ((ENNReal.ofReal b : ENNReal) : EReal) ((n : ℝ) : EReal) = ((ENNReal.ofReal b ^ n : ENNReal) : EReal) := by
  rw [EReal.coe_ennreal_ofReal, max_eq_left hb, pow_natCast, ← ENNReal.ofReal_pow hb, EReal.coe_ennreal_ofReal,
    max_eq_left (pow_nonneg hb n)]

/-- A natural power of the decay. -/
theorem pow_bN (n : ℕ) : Ideal.pow ((bN : ENNReal) : EReal) ((n : ℝ) : EReal) = ((bN ^ n : ENNReal) : EReal) :=
  pow_ofReal bR bR_pos.le n

/-- A natural power of the decay over one block. -/
theorem pow_bN_block (n : ℕ) :
    Ideal.pow ((bN ^ 256 : ENNReal) : EReal) ((n : ℝ) : EReal) = (((bN ^ 256) ^ n : ENNReal) : EReal) := by
  have h := pow_ofReal (bR ^ 256) (pow_nonneg bR_pos.le _) n
  rwa [ENNReal.ofReal_pow bR_pos.le] at h

/-- A small word, signed. -/
theorem toInt_ofNat_small (n : ℕ) (hn : n < 2 ^ 20) : (BitVec.ofNat 32 n).toInt = (n : ℤ) := by
  rw [BitVec.toInt_eq_toNat_bmod, BitVec.toNat_ofNat]
  simp only [Int.bmod]
  omega

/-- The signed difference of two small words. -/
theorem toInt_sub_ofNat (a b : ℕ) (ha : a < 2 ^ 20) (hb : b < 2 ^ 20) :
    (IntOp.subi (BitVec.ofNat 32 a) (BitVec.ofNat 32 b)).toInt = (a : ℤ) - b := by
  unfold IntOp.subi
  rw [BitVec.toInt_sub, toInt_ofNat_small a ha, toInt_ofNat_small b hb]
  simp only [Int.bmod]
  omega

/-- Choosing by a signed comparison with zero. -/
theorem select_sge {α : Type} (w : BitVec 32) (x y : α) :
    Scalar.select (IntOp.cmpi .sge w 0#32) x y = if 0 ≤ w.toInt then x else y := by
  rw [WordCmp.cmpi_sge_eq, WordCmp.select_ofBool]
  simp

/-- Clamping below at zero does nothing to a word that is not negative. -/
theorem maxsi_zero (w : BitVec 32) (h : 0 ≤ w.toInt) : IntOp.maxsi w 0#32 = w := by
  unfold IntOp.maxsi
  split
  · rfl
  · next hn =>
    have : ¬ 0 < w.toInt := by simpa [BitVec.slt] using hn
    exact (BitVec.eq_of_toInt_eq (by simp; omega)).symm

/-- Converting a word that holds a natural number. -/
theorem sitofp_nat (w : BitVec 32) (n : ℕ) (h : w.toInt = n) :
    FloatOps.sitofp (F := Ideal) .f32 w = ((n : ℝ) : EReal) := by
  show (((w.toInt : ℤ) : ℝ) : EReal) = _
  rw [h]; norm_cast

/-- An entry of the within-block table. -/
theorem in_entry (i k : ℕ) (hi : i < 256) (hk : k < 256) :
    Scalar.select (IntOp.cmpi .sge (IntOp.subi (BitVec.ofNat 32 i) (BitVec.ofNat 32 k)) 0#32)
      (Ideal.ofBits .f32 0x3B7F8020#32 *
        Ideal.pow (1 - Ideal.ofBits .f32 0x3B7F8020#32)
          (FloatOps.sitofp (F := Ideal) .f32 (IntOp.maxsi (IntOp.subi (BitVec.ofNat 32 i) (BitVec.ofNat 32 k)) 0#32)))
      (0 : EReal) = ((wIn sN bN i k : ENNReal) : EReal) := by
  have hw := toInt_sub_ofNat i k (by omega) (by omega)
  rw [select_sge, wIn, hw]
  by_cases h : k ≤ i
  · rw [if_pos (by omega), if_pos h, maxsi_zero _ (by omega), sitofp_nat _ (i - k) (by omega), one_sub_s_eq, pow_bN,
      ofBits_s_eq, EReal.coe_ennreal_mul]
  · rw [if_neg (by omega), if_neg h]; rfl

/-- An entry of the within-block decay. -/
theorem decay_entry (i : ℕ) (hi : i < 256) :
    Ideal.pow (1 - Ideal.ofBits .f32 0x3B7F8020#32) ((FloatOps.sitofp (F := Ideal) .f32 (BitVec.ofNat 32 i) : EReal) + 1)
      = ((bN ^ (i + 1) : ENNReal) : EReal) := by
  have hw : (BitVec.ofNat 32 i).toInt = (i : ℤ) := by
    exact toInt_ofNat_small i (by omega)
  have h1 : ((FloatOps.sitofp (F := Ideal) .f32 (BitVec.ofNat 32 i) : EReal) + 1) = ((((i + 1 : ℕ) : ℝ)) : EReal) := by
    rw [show (FloatOps.sitofp (F := Ideal) .f32 (BitVec.ofNat 32 i) : EReal) = ((i : ℝ) : EReal) from sitofp_nat _ i hw]
    push_cast; rfl
  rw [h1, one_sub_s_eq, pow_bN]

/-- The age of sample `t` at the end of block `j - 1`, as a signed word. -/
theorem toInt_age (t j : ℕ) (ht : t < 4096) (hj : j < 17) :
    (IntOp.subi (IntOp.subi (IntOp.muli (BitVec.ofNat 32 j) 256#32) 1#32) (BitVec.ofNat 32 t)).toInt
      = (j : ℤ) * 256 - 1 - t := by
  unfold IntOp.subi IntOp.muli
  rw [BitVec.toInt_sub, BitVec.toInt_sub, BitVec.toInt_mul, toInt_ofNat_small t (by omega), toInt_ofNat_small j (by omega)]
  simp only [Int.bmod, BitVec.reduceToInt]
  omega

/-- An entry of the carry table's first factor. -/
theorem out_entry (t j : ℕ) (ht : t < 4096) (hj : j < 17) :
    Scalar.select (IntOp.andi (IntOp.cmpi .eq (BitVec.ofNat 32 t) 0#32) (IntOp.cmpi .eq (BitVec.ofNat 32 j) 0#32))
      (1 : EReal)
      (Scalar.select
        (IntOp.andi
          (IntOp.cmpi .sge (IntOp.subi (IntOp.subi (IntOp.muli (BitVec.ofNat 32 j) 256#32) 1#32) (BitVec.ofNat 32 t)) 0#32)
          (IntOp.cmpi .slt (IntOp.subi (IntOp.subi (IntOp.muli (BitVec.ofNat 32 j) 256#32) 1#32) (BitVec.ofNat 32 t)) 256#32))
        (Ideal.ofBits .f32 0x3B7F8020#32 *
          Ideal.pow (1 - Ideal.ofBits .f32 0x3B7F8020#32)
            (FloatOps.sitofp (F := Ideal) .f32
              (IntOp.maxsi (IntOp.subi (IntOp.subi (IntOp.muli (BitVec.ofNat 32 j) 256#32) 1#32) (BitVec.ofNat 32 t)) 0#32)))
        (0 : EReal))
      = ((wOut sN bN t j : ENNReal) : EReal) := by
  have hw := toInt_age t j ht hj
  generalize IntOp.subi (IntOp.subi (IntOp.muli (BitVec.ofNat 32 j) 256#32) 1#32) (BitVec.ofNat 32 t) = w at hw ⊢
  have hz : ∀ n : ℕ, n < 4096 → IntOp.cmpi .eq (BitVec.ofNat 32 n) 0#32 = BitVec.ofBool (decide (n = 0)) := by
    intro n hn
    unfold IntOp.cmpi
    congr 1
    rw [beq_eq_decide]
    refine decide_eq_decide.mpr ⟨fun h => ?_, fun h => by rw [h]⟩
    have := congrArg BitVec.toNat h
    simp only [BitVec.toNat_ofNat] at this
    omega
  rw [hz t ht, hz j (by omega), WordCmp.cmpi_sge_eq, WordCmp.cmpi_slt_eq, WordCmp.andi_ofBool, WordCmp.andi_ofBool,
    WordCmp.select_ofBool, WordCmp.select_ofBool, wOut]
  simp only [← Bool.decide_and, decide_eq_true_eq, BitVec.reduceToInt, hw]
  by_cases h0 : t = 0 ∧ j = 0
  · rw [if_pos h0, if_pos h0]; rfl
  · rw [if_neg h0, if_neg h0]
    by_cases h : t < j * 256 ∧ j * 256 ≤ t + 256
    · rw [if_pos (by omega), if_pos h, maxsi_zero _ (by omega), sitofp_nat _ (j * 256 - 1 - t) (by omega), one_sub_s_eq,
        pow_bN, ofBits_s_eq, EReal.coe_ennreal_mul]
    · rw [if_neg (by omega), if_neg h]; rfl

/-- An entry of the carry table's second factor, at the decay over one block. -/
theorem carry_entry (i j : ℕ) (hi : i < 17) (hj : j < 16) :
    Scalar.select (IntOp.cmpi .sge (IntOp.subi (BitVec.ofNat 32 j) (BitVec.ofNat 32 i)) 0#32)
      (Ideal.pow ((bN ^ 256 : ENNReal) : EReal)
        (FloatOps.sitofp (F := Ideal) .f32 (IntOp.maxsi (IntOp.subi (BitVec.ofNat 32 j) (BitVec.ofNat 32 i)) 0#32)))
      (0 : EReal) = ((wCarry bN i j : ENNReal) : EReal) := by
  have hw := toInt_sub_ofNat j i (by omega) (by omega)
  rw [select_sge, wCarry, hw]
  by_cases h : i ≤ j
  · rw [if_pos (by omega), if_pos h, maxsi_zero _ (by omega), sitofp_nat _ (j - i) (by omega), pow_bN_block]
  · rw [if_neg (by omega), if_neg h]; rfl

end Cert.Pcen

end
-- ==== Proof.Tables.lean ====
/-
  The arrays the kernel's windows read, as the host operations before the launch leave them: the four tables of
  weights at an index, the four parameter rows, and the input.
-/
module

public import proofs.«01_k».proof.Proof.Gen.KernelIdeal.Frame
public import proofs.«01_k».proof.Proof.TableEntries
public import Idealize.ShloMosaic.Lib.StableHlo.RunRead
public import Idealize.ShloMosaic.Lib.Pointwise

@[expose] public section

noncomputable section

namespace Cert.Pcen.Kernel

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ)

/-- The smoothing coefficient, as the host holds it. -/
def coef : FVec Ideal S_ .f32 := constant S_ .f32 0x3B7F8020#32

/-- The decay, as the host computes it. -/
def decay : FVec Ideal S_ .f32 := subf (constant S_ .f32 0x3F800000#32) coef

/-- A host scalar squared. -/
def sq (v : FVec Ideal S_ .f32) : FVec Ideal S_ .f32 := mulf v v

/-- The decay over one block: eight squarings. -/
def blockDecay : FVec Ideal S_ .f32 := sq (sq (sq (sq (sq (sq (sq (sq decay)))))))

/-- Row number less column number. -/
def gap : IVec S256x256 32 :=
  subi (broadcastInDim S256x256 ![0, 1] bcast_S256x1_S256x256_0_1
      (broadcastInDim S256x1 ![0] bcast_S256_S256x1_0 (iotaInDim S256 32 0)))
    (broadcastInDim S256x256 ![0, 1] bcast_S1x256_S256x256_0_1
      (broadcastInDim S1x256 ![1] bcast_S256_S1x256_1 (iotaInDim S256 32 0)))

/-- The within-block table. -/
def inTable : FVec Ideal S256x256 .f32 :=
  select (cmpi .sge gap (broadcastInDim S256x256 ![] bcast_S_S256x256 (constantI S_ 32 0#32)))
    (mulf (broadcastInDim S256x256 ![] bcast_S_S256x256 coef)
      (Host.powf (broadcastInDim S256x256 ![] bcast_S_S256x256 decay)
        (sitofp .f32 (maxsi gap (broadcastInDim S256x256 ![] bcast_S_S256x256 (constantI S_ 32 0#32))))))
    (broadcastInDim S256x256 ![] bcast_S_S256x256 (constant S_ .f32 0x00000000#32))

/-- The within-block decay. -/
def decayTable : FVec Ideal S256x1 .f32 :=
  shapeCast S256x1 (Host.powf (broadcastInDim S256 ![] bcast_S_S256 decay)
    (addf (sitofp .f32 (iotaInDim S256 32 0)) (broadcastInDim S256 ![] bcast_S_S256 (constant S_ .f32 0x3F800000#32)))) shapeCasts_S256_S256x1

/-- The sample numbers, as a column. -/
def sampleCol : IVec S4096x1 32 := broadcastInDim S4096x1 ![0] bcast_S4096_S4096x1_0 (iotaInDim S4096 32 0)

/-- The block numbers, as a row. -/
def blockRow : IVec S1x17 32 := broadcastInDim S1x17 ![1] bcast_S17_S1x17_1 (iotaInDim S17 32 0)

/-- The age of each sample at the end of the block before each block. -/
def age : IVec S4096x17 32 :=
  subi (broadcastInDim S4096x17 ![0, 1] bcast_S1x17_S4096x17_0_1
      (subi (muli blockRow (broadcastInDim S1x17 ![] bcast_S_S1x17 (constantI S_ 32 256#32)))
        (broadcastInDim S1x17 ![] bcast_S_S1x17 (constantI S_ 32 1#32))))
    (broadcastInDim S4096x17 ![0, 1] bcast_S4096x1_S4096x17_0_1 sampleCol)

/-- The carry table's first factor. -/
def outTable : FVec Ideal S4096x17 .f32 :=
  select
    (andi (broadcastInDim S4096x17 ![0, 1] bcast_S4096x1_S4096x17_0_1
        (cmpi .eq sampleCol (broadcastInDim S4096x1 ![] bcast_S_S4096x1 (constantI S_ 32 0#32))))
      (broadcastInDim S4096x17 ![0, 1] bcast_S1x17_S4096x17_0_1
        (cmpi .eq blockRow (broadcastInDim S1x17 ![] bcast_S_S1x17 (constantI S_ 32 0#32)))))
    (broadcastInDim S4096x17 ![] bcast_S_S4096x17 (constant S_ .f32 0x3F800000#32))
    (select
      (andi (cmpi .sge age (broadcastInDim S4096x17 ![] bcast_S_S4096x17 (constantI S_ 32 0#32)))
        (cmpi .slt age (broadcastInDim S4096x17 ![] bcast_S_S4096x17 (constantI S_ 32 256#32))))
      (mulf (broadcastInDim S4096x17 ![] bcast_S_S4096x17 coef)
        (Host.powf (broadcastInDim S4096x17 ![] bcast_S_S4096x17 decay)
          (sitofp .f32 (maxsi age (broadcastInDim S4096x17 ![] bcast_S_S4096x17 (constantI S_ 32 0#32))))))
      (broadcastInDim S4096x17 ![] bcast_S_S4096x17 (constant S_ .f32 0x00000000#32)))

/-- Later block number less earlier block number. -/
def lag : IVec S17x16 32 :=
  subi (broadcastInDim S17x16 ![0, 1] bcast_S1x16_S17x16_0_1
      (broadcastInDim S1x16 ![1] bcast_S16_S1x16_1 (iotaInDim S16 32 0)))
    (broadcastInDim S17x16 ![0, 1] bcast_S17x1_S17x16_0_1
      (broadcastInDim S17x1 ![0] bcast_S17_S17x1_0 (iotaInDim S17 32 0)))

/-- The carry table's second factor. -/
def carryTable : FVec Ideal S17x16 .f32 :=
  select (cmpi .sge lag (broadcastInDim S17x16 ![] bcast_S_S17x16 (constantI S_ 32 0#32)))
    (Host.powf (broadcastInDim S17x16 ![] bcast_S_S17x16 blockDecay)
      (sitofp .f32 (maxsi lag (broadcastInDim S17x16 ![] bcast_S_S17x16 (constantI S_ 32 0#32)))))
    (broadcastInDim S17x16 ![] bcast_S_S17x16 (constant S_ .f32 0x00000000#32))

/-- A parameter vector exponentiated and laid out as a row. -/
def expRow (v : FVec Ideal S128 .f32) : FVec Ideal S1x128 .f32 :=
  shapeCast S1x128 (Host.exp v) shapeCasts_S128_S1x128

/-- The offset raised to the root, computed as the exponential of a product. -/
def rootRow (v w : FVec Ideal S128 .f32) : FVec Ideal S1x128 .f32 :=
  Host.exp (mulf (expRow w) (broadcastInDim S1x128 ![1] bcast_S128_S1x128_1 v))

/-- The first window reads the within-block table. -/
theorem V_main_v26 (c : Dev nD) : V m c main_v26 = inTable := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  rfl

/-- The second window reads the within-block decay. -/
theorem V_main_v34 (c : Dev nD) : V m c main_v34 = decayTable := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  rfl

/-- The third window reads the carry table's first factor. -/
theorem V_main_v68 (c : Dev nD) : V m c main_v68 = outTable := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  rfl

/-- The fourth window reads the carry table's second factor. -/
theorem V_main_v84 (c : Dev nD) : V m c main_v84 = carryTable := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  rfl

/-- The exponents. -/
theorem V_main_v87 (c : Dev nD) : V m c main_v87 = Host.negf (expRow (m ((c : Thread nD τ).loc main_arg1))) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  rfl

/-- The offsets. -/
theorem V_main_v89 (c : Dev nD) : V m c main_v89 = expRow (m ((c : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  rfl

/-- The roots. -/
theorem V_main_v91 (c : Dev nD) : V m c main_v91 = expRow (m ((c : Thread nD τ).loc main_arg3)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  rfl

/-- The rooted offsets. -/
theorem V_main_v94 (c : Dev nD) : V m c main_v94 = rootRow (m ((c : Thread nD τ).loc main_arg2)) (m ((c : Thread nD τ).loc main_arg3)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  rfl

/-- The input, its axis of size one dropped. -/
theorem V_main_v95 (c : Dev nD) : V m c main_v95 = shapeCast S32x128x4096 (m ((c : Thread nD τ).loc main_arg0)) shapeCasts_S32x1x128x4096_S32x128x4096 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  rfl

/-- The within-block table at an index. -/
theorem inTable_apply (i k : Fin 256) : inTable (ix2 i k) = ((wIn sN bN i k : ENNReal) : EReal) := by
  pointwise [inTable, gap, decay, coef]
  exact in_entry i k i.isLt k.isLt

/-- The within-block decay at an index. -/
theorem decayTable_apply (i : Fin 256) (z : Fin 1) : decayTable (ix2 i z) = ((bN ^ (i.val + 1) : ENNReal) : EReal) := by
  pointwise [decayTable, decay, coef]
  exact decay_entry i i.isLt

/-- The carry table's first factor at an index. -/
theorem outTable_apply (t : Fin 4096) (j : Fin 17) : outTable (ix2 t j) = ((wOut sN bN t j : ENNReal) : EReal) := by
  pointwise [outTable, age, sampleCol, blockRow, decay, coef]
  exact out_entry t j t.isLt j.isLt

/-- The decay over one block is the decay's 256th power. -/
theorem blockDecay_apply (i : S_.Idx) : blockDecay i = ((bN ^ 256 : ENNReal) : EReal) := by
  have hd : decay i = ((bN : ENNReal) : EReal) := by
    pointwise [decay, coef]
    exact one_sub_s_eq
  have hs : ∀ (v : FVec Ideal S_ .f32) (n : ℕ), v i = ((bN ^ n : ENNReal) : EReal) →
      sq v i = ((bN ^ (n + n) : ENNReal) : EReal) := by
    intro v n h
    show v i * v i = _
    rw [h, ← EReal.coe_ennreal_mul, ← pow_add]
  exact hs _ 128 (hs _ 64 (hs _ 32 (hs _ 16 (hs _ 8 (hs _ 4 (hs _ 2 (hs _ 1 (by rw [hd, pow_one]))))))))

/-- The carry table's second factor at an index. -/
theorem carryTable_apply (i : Fin 17) (j : Fin 16) : carryTable (ix2 i j) = ((wCarry bN i j : ENNReal) : EReal) := by
  pointwise [carryTable, lag]
  rw [blockDecay_apply]
  exact carry_entry i j i.isLt j.isLt

/-- A parameter row at an index. -/
theorem expRow_apply (v : FVec Ideal S128 .f32) (z : Fin 1) (f : Fin 128) :
    expRow v (ix2 z f) = Ideal.exp (v (ix1 f)) := by
  pointwise [expRow]

/-- The rooted offset at an index. -/
theorem rootRow_apply (v w : FVec Ideal S128 .f32) (z : Fin 1) (f : Fin 128) :
    rootRow v w (ix2 z f) = Ideal.exp (Ideal.exp (w (ix1 f)) * v (ix1 f)) := by
  pointwise [rootRow, expRow]

end Cert.Pcen.Kernel

end
-- ==== Proof.Smoother.lean ====
/-
  The two smoothers meet.  Where no sample is negative, both programs' smoothers are the image of one recurrence over
  the nonnegative extended reals: the kernel's by the two products over its tables, the reference's step by step.
-/
module

public import proofs.«01_k».proof.Proof.KernelBlock
public import proofs.«01_k».proof.Proof.Tables
public import proofs.«01_k».proof.Proof.Recurrence
public import proofs.«01_k».proof.Proof.RefLoop

@[expose] public section

noncomputable section

namespace Cert.Pcen

open Cert.KernelIdeal Idealize.ShloMosaic Idealize.ShloMosaic.Pointwise

/-- The cast of the nonnegative extended reals into the extended reals goes through a finite sum. -/
theorem coe_sum {ι : Type} (s : Finset ι) (f : ι → ENNReal) :
    ((∑ i ∈ s, f i : ENNReal) : EReal) = ∑ i ∈ s, (f i : EReal) := by
  classical
  induction s using Finset.induction_on with
  | empty => simp
  | insert a s ha ih => rw [Finset.sum_insert ha, Finset.sum_insert ha, EReal.coe_ennreal_add, ih]

variable (x : FVec Ideal S32x1x128x4096 .f32)

/-- One row's samples, as nonnegative numbers. -/
def row (b : Fin 32) (f : Fin 128) (t : ℕ) : ENNReal := (Ref.samples x b f t).toENNReal

variable {x}

/-- The samples are their nonnegative numbers. -/
theorem samples_eq (hx : ∀ i, 0 ≤ x i) (b : Fin 32) (f : Fin 128) (t : ℕ) :
    Ref.samples x b f t = ((row x b f t : ENNReal) : EReal) := by
  refine (EReal.coe_toENNReal ?_).symm
  unfold Ref.samples
  split
  · exact hx _
  · exact le_refl _

/-- The sample read at its place. -/
theorem input_eq (hx : ∀ i, 0 ≤ x i) (b : Fin 32) (f : Fin 128) (t : Fin 4096) :
    x (ix4 b 0 f t) = ((row x b f t.val : ENNReal) : EReal) := by
  rw [← samples_eq hx]
  unfold Ref.samples
  rw [dif_pos t.isLt]

/-- The reference's smoother, as a recurrence over the nonnegative numbers. -/
def stepwise (x : FVec Ideal S32x1x128x4096 .f32) (b : Fin 32) (f : Fin 128) : ℕ → ENNReal
  | 0 => row x b f 0
  | t + 1 => bN * stepwise x b f t + sN * row x b f (t + 1)

/-- The reference's smoother is the image of that recurrence. -/
theorem smoother_stepwise (hx : ∀ i, 0 ≤ x i) (b : Fin 32) (f : Fin 128) (t : ℕ) :
    Ref.smoother x b f t = ((stepwise x b f t : ENNReal) : EReal) := by
  induction t with
  | zero => exact samples_eq hx b f 0
  | succ t ih =>
    show (1 - Ideal.ofBits .f32 0x3B7F8020#32) * Ref.smoother x b f t
        + Ideal.ofBits .f32 0x3B7F8020#32 * Ref.samples x b f (t + 1) = _
    rw [ih, samples_eq hx, one_sub_s_eq, ofBits_s_eq]
    show _ = ((bN * stepwise x b f t + sN * row x b f (t + 1) : ENNReal) : EReal)
    rw [EReal.coe_ennreal_add, EReal.coe_ennreal_mul, EReal.coe_ennreal_mul]

/-- The reference's smoother after sample `t` is the state after `t + 1` samples. -/
theorem smoother_state (hx : ∀ i, 0 ≤ x i) (b : Fin 32) (f : Fin 128) (t : Fin 4096) :
    Ref.smoother x b f t.val = ((state sN bN (row x b f) (t.val + 1) : ENNReal) : EReal) := by
  rw [smoother_stepwise hx]
  exact congrArg _ (seq_eq_state sN bN bN_add_sN (row x b f) (stepwise x b f) rfl 4096 (fun _ _ => rfl) t.val t.isLt)

/-- The kernel's smoother after sample `t`, from its tables, is the same state. -/
theorem smoothed_state (hx : ∀ i, 0 ≤ x i) (b : Fin 32) (f : Fin 128) (t : Fin 4096)
    (x0 : FVec Ideal S1x128x4096 .f32) (h0 : ∀ u, x0 (ix3 0 f u) = x (ix4 b 0 f u)) :
    Kernel.smoothed x0 Kernel.inTable Kernel.decayTable Kernel.outTable Kernel.carryTable t f
      = ((state sN bN (row x b f) (t.val + 1) : ENNReal) : EReal) := by
  have e := blocked_eq_state sN bN (row x b f) (t.val / 256) (by omega) (t.val % 256) (by omega)
  rw [show t.val / 256 * 256 + t.val % 256 + 1 = t.val + 1 by omega] at e
  rw [← e]
  unfold Kernel.smoothed
  simp only [h0, input_eq hx, Kernel.inTable_apply, Kernel.decayTable_apply, Kernel.outTable_apply,
    Kernel.carryTable_apply, EReal.coe_ennreal_add, EReal.coe_ennreal_mul, coe_sum]

end Cert.Pcen

end
-- ==== Proof.Equation.lean ====
/-
  The equation of the two results.  Over one smoother the kernel's compression, written with exponentials and
  logarithms, is the reference's, written with powers; so the two arrays agree wherever no sample is negative.
-/
module

public import proofs.«01_k».proof.Proof.KernelValue
public import proofs.«01_k».proof.Proof.RefValue
public import proofs.«01_k».proof.Proof.Scalar
public import proofs.«01_k».proof.Proof.Smoother

@[expose] public section

noncomputable section

namespace Cert.Pcen

open Cert.KernelIdeal Cert.KernelIdeal.Gen Idealize.ShloMosaic Idealize.ShloMosaic.TcCoe Idealize.ShloMosaic.Pointwise
open Idealize.SL.Sem

/-- The two compressions of a sample agree: the gain by `log`/`log1p` is the gain by `log` of the sum, and a power of a
    nonnegative number is the exponential of its logarithm's multiple. -/
theorem compress_eq (x M al de r : EReal) (hx : 0 ≤ x) :
    Ideal.exp (Ideal.exp r * Ideal.log (x * Ideal.exp (-Ideal.exp al * Ideal.log (M + Ideal.ofBits .f32 0x3727C5AC#32))
        + Ideal.exp de)) - Ideal.exp (Ideal.exp r * de)
      = Ref.compress x M al de r := by
  unfold Ref.compress
  rw [ofBits_eps, log_add_log1p_div epsR_pos, pow_exp _ _ (exp_nonneg _), pow_eq_exp_mul_log _ _ _ (exp_nonneg _)]
  exact add_nonneg (mul_nonneg hx (exp_nonneg _)) (exp_nonneg _)

/-- Row `b` of the kernel's input window holds the input's row `b`. -/
theorem rowOf_apply (x : FVec Ideal S32x1x128x4096 .f32) (b : Fin 32) (f : Fin 128) (t : Fin 4096) :
    Kernel.rowOf (shapeCast S32x128x4096 x shapeCasts_S32x1x128x4096_S32x128x4096) b (ix3 0 f t) = x (ix4 b 0 f t) := by
  show shapeCast S32x128x4096 x shapeCasts_S32x1x128x4096_S32x128x4096 (ix3 b f t) = _
  pointwise

/-- The kernel's result, an index: the reference's compression of the reference's smoother. -/
theorem kernel_result_apply (m : (ℓ : Loc nD τ sig) → Buf (Elt Ideal) ℓ) (c : Dev nD)
    (x : FVec Ideal S32x1x128x4096 .f32) (al de r : FVec Ideal S128 .f32)
    (e0 : m (c.tc.loc main_arg0) = x) (e1 : m (c.tc.loc main_arg1) = al) (e2 : m (c.tc.loc main_arg2) = de)
    (e3 : m (c.tc.loc main_arg3) = r) (hx : ∀ i, 0 ≤ x i) (b : Fin 32) (t : Fin 4096) (f : Fin 128) :
    Kernel.result m c (ix3 b t f)
      = Ref.compress (x (ix4 b 0 f t)) (Ref.smoother x b f t.val) (al (ix1 f)) (de (ix1 f)) (r (ix1 f)) := by
  rw [← compress_eq _ _ _ _ _ (hx _)]
  show Kernel.blockVal (Kernel.rowOf (V m c main_v95) b) (V m c main_v26) (V m c main_v34) (V m c main_v68)
    (V m c main_v84) (V m c main_v87) (V m c main_v89) (V m c main_v91) (V m c main_v94) t f = _
  rw [Kernel.V_main_v26, Kernel.V_main_v34, Kernel.V_main_v68, Kernel.V_main_v84, Kernel.V_main_v87, Kernel.V_main_v89,
    Kernel.V_main_v91, Kernel.V_main_v94, Kernel.V_main_v95, e0, e1, e2, e3]
  unfold Kernel.blockVal
  rw [smoothed_state hx b f t _ (rowOf_apply x b f), smoother_state hx, rowOf_apply, Kernel.expRow_apply,
    Kernel.expRow_apply, Kernel.rootRow_apply]
  show Ideal.exp (_ * Ideal.log (_ * Ideal.exp (-(Kernel.expRow al (ix2 0 f)) * _) + _)) - _ = _
  rw [Kernel.expRow_apply]

end Cert.Pcen

end
-- ==== Proof.RefRun.lean ====
/-
  The reference's run, in the form the claims ask: the result array at its value, the arguments as they were, and
  every counter at zero.
-/
module

public import proofs.«01_k».proof.Proof.RefValue
public import Idealize.ShloMosaic.Lib.Quiescent

@[expose] public section

noncomputable section

namespace Cert.Pcen.Ref

open Cert.ReferenceIdeal Cert.ReferenceIdeal.Gen Cert.ReferenceIdeal.Value Idealize.ShloMosaic Idealize.ShloMosaic.TcCoe
open Idealize.SL.Sem Idealize.ShloMosaic.StableHlo

variable (m : (ℓ : Loc nD τ sig) → Buf (Elt Ideal) ℓ)

/-- The first argument ends as it was. -/
theorem final_arg0 (c : Dev nD) :
    finalContents condOps preI bodyI postI 4095 m c (Proc.devRef .tc main_arg0) = m (c.tc.loc main_arg0) := by
  have e : ∀ W : Valuation τ sig (Elt Ideal), after hostOps0_1 W (Proc.devRef .tc main_arg0) = W (Proc.devRef .tc main_arg0) := by
    intro W; after_reads_simp
  exact (e (afterLoop m c)).trans ((afterLoop_keep m c main_arg0 (by decide) (by decide) (by decide) (by decide)
    (by decide)).trans (entry_arg0 m c))

/-- The second argument ends as it was. -/
theorem final_arg1 (c : Dev nD) :
    finalContents condOps preI bodyI postI 4095 m c (Proc.devRef .tc main_arg1) = m (c.tc.loc main_arg1) := by
  have e : ∀ W : Valuation τ sig (Elt Ideal), after hostOps0_1 W (Proc.devRef .tc main_arg1) = W (Proc.devRef .tc main_arg1) := by
    intro W; after_reads_simp
  refine (e (afterLoop m c)).trans ((afterLoop_keep m c main_arg1 (by decide) (by decide) (by decide) (by decide)
    (by decide)).trans ?_)
  simp only [entryContents, afterL_cons, afterL_nil]
  after_reads_simp

/-- The third argument ends as it was. -/
theorem final_arg2 (c : Dev nD) :
    finalContents condOps preI bodyI postI 4095 m c (Proc.devRef .tc main_arg2) = m (c.tc.loc main_arg2) := by
  have e : ∀ W : Valuation τ sig (Elt Ideal), after hostOps0_1 W (Proc.devRef .tc main_arg2) = W (Proc.devRef .tc main_arg2) := by
    intro W; after_reads_simp
  refine (e (afterLoop m c)).trans ((afterLoop_keep m c main_arg2 (by decide) (by decide) (by decide) (by decide)
    (by decide)).trans ?_)
  simp only [entryContents, afterL_cons, afterL_nil]
  after_reads_simp

/-- The fourth argument ends as it was. -/
theorem final_arg3 (c : Dev nD) :
    finalContents condOps preI bodyI postI 4095 m c (Proc.devRef .tc main_arg3) = m (c.tc.loc main_arg3) := by
  have e : ∀ W : Valuation τ sig (Elt Ideal), after hostOps0_1 W (Proc.devRef .tc main_arg3) = W (Proc.devRef .tc main_arg3) := by
    intro W; after_reads_simp
  refine (e (afterLoop m c)).trans ((afterLoop_keep m c main_arg3 (by decide) (by decide) (by decide) (by decide)
    (by decide)).trans ?_)
  simp only [entryContents, afterL_cons, afterL_nil]
  after_reads_simp

/-- The reference ends with its result array at `result`, and its arguments as they were. -/
theorem run_value (ρ : Dev nD → PrngReg) :
    θ_run (defs (F := Ideal)) (onTc (τ := τ) (main (F := Ideal))) ⟨m, fun _ => 0, ρ⟩ (fun r => ∀ c : Dev nD,
      r.2.mem (c.tc.loc main_v38) = result m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run (defs (F := Ideal)) _ _).mono (fun r h c =>
    ⟨(h c main_v38 rfl).trans (final_v38 m c), (h c main_arg0 rfl).trans (final_arg0 m c),
      (h c main_arg1 rfl).trans (final_arg1 m c), (h c main_arg2 rfl).trans (final_arg2 m c),
      (h c main_arg3 rfl).trans (final_arg3 m c)⟩) (run_fold m ρ)

/-- The reference ends with its arguments as they were and every counter at zero: it declares no semaphore. -/
theorem frame (ρ : Dev nD → PrngReg) :
    θ_run (defs (F := Ideal)) (onTc (τ := τ) (main (F := Ideal))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) ∧ r.2.sem = fun _ => 0) :=
  (θ_run (defs (F := Ideal)) _ _).mono (fun r h => ⟨fun c => (h c).2, sem_eq_zero_of_no_sems (by decide) r.2⟩) (run_value m ρ)

end Cert.Pcen.Ref

end
-- ==== Proof.Precondition.lean ====
/-
  The precondition, read back: no sample is negative.
-/
module

public import proofs.«01_k».proof.Pre_nonneg
public import Idealize.ShloMosaic.Lib.ReduceAll
public import Idealize.ShloMosaic.Lib.Pointwise

@[expose] public section

noncomputable section

namespace Cert.Pcen.Pre

open Cert.Pre_nonneg Idealize.ShloMosaic Idealize.ShloMosaic.Pointwise

/-- The shape relations the precondition's operations take. -/
theorem facts : Cert.Pre_nonneg.Facts where
  bcast_S_S32x1x128x4096 := by decide
  reducesTo_S32x1x128x4096_S_d0_1_2_3 := by decide
  h_S_ := by decide

/-- Where the precondition holds, no sample is negative. -/
theorem nonneg_of_pre (h : Cert.Pre_nonneg.Facts) (x : FVec Ideal S32x1x128x4096 .f32) (al de r : FVec Ideal S128 .f32)
    (e : fn (F := Ideal) x al de r = fun _ => 1#1) (i : S32x1x128x4096.Idx) : 0 ≤ x i := by
  have : Subsingleton S_.Idx := ⟨fun a b => funext fun k => k.elim0⟩
  have hi := Host.reduce_andi_all _ _ _ _ (fun k => k.elim0) (congrFun e (fun k => k.elim0)) i
  have hz : Ideal.ofBits .f32 0x00000000#32 = 0 := by pointwise
  have hc : BitVec.ofBool (decide (Ideal.ofBits .f32 0x00000000#32 ≤ x i)) = 1#1 := hi
  rw [hz] at hc
  by_contra hn
  rw [decide_eq_false hn] at hc
  exact absurd hc (by decide)

end Cert.Pcen.Pre

end
-- ==== Proof.lean ====
/-
  The certificate: the three programs end with their arguments as they were and every counter at zero, the
  idealization rewrote nothing, and over the extended reals the kernel's result array is the reference's wherever no
  sample is negative.  The mathematics is in the modules under Proof/: Recurrence (the recurrence solved in blocks),
  Scalar (the laws of exp, log and pow), KernelBlock and KernelValue (what the kernel's array holds), Tables (what its
  tables hold), RefLoop and RefValue (what the reference computes), Smoother and Equation (the two agree).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import proofs.«01_k».proof.Proof.RefRun
public import proofs.«01_k».proof.Proof.Precondition
public import Idealize.ShloMosaic.Adequacy
public import Idealize.ShloMosaic.Init

@[expose] public section

noncomputable section

namespace Cert.Proof

open Idealize.ShloMosaic Idealize.ShloMosaic.Pointwise Idealize.SL.Sem

/-- The kernel's result array is the reference's, where the arguments are the same and no sample is negative. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m (c.tc.loc Cert.KernelIdeal.main_arg0) = Cert.Pcen.Ref.inp m' c)
    (e1 : m (c.tc.loc Cert.KernelIdeal.main_arg1) = m' ((c.tc : Thread Cert.ReferenceIdeal.nD Cert.ReferenceIdeal.τ).loc Cert.ReferenceIdeal.main_arg1))
    (e2 : m (c.tc.loc Cert.KernelIdeal.main_arg2) = m' ((c.tc : Thread Cert.ReferenceIdeal.nD Cert.ReferenceIdeal.τ).loc Cert.ReferenceIdeal.main_arg2))
    (e3 : m (c.tc.loc Cert.KernelIdeal.main_arg3) = m' ((c.tc : Thread Cert.ReferenceIdeal.nD Cert.ReferenceIdeal.τ).loc Cert.ReferenceIdeal.main_arg3))
    (hx : ∀ i, 0 ≤ Cert.Pcen.Ref.inp m' c i) :
    Cert.Pcen.Kernel.result m c = Cert.Pcen.Ref.result m' c := by
  funext y
  rw [eq_ix3 y]
  exact (Cert.Pcen.kernel_result_apply m c _ _ _ _ e0 e1 e2 e3 hx _ _ _).trans (Cert.Pcen.Ref.result_apply m' c _ _ _).symm

/-- The value claim: both programs run and end with equal results. -/
theorem algebraic : @Cert.algebraic_KernelIdeal_ReferenceIdeal_pre_nonneg Cert.KernelIdeal.Gen.facts
    Cert.ReferenceIdeal.Gen.facts Cert.Pcen.Pre.facts := by
  intro m g m' g' hpre hargs
  refine ⟨fun c => Cert.Pcen.Kernel.result m c,
    (θ_run _ _ _).mono (fun r h c => ⟨(h c).1.trans (Cert.Pcen.Kernel.final m c), (h c).2⟩)
      (Cert.KernelIdeal.Value.run_blocks m g),
    (θ_run _ _ _).mono (fun r h c => ⟨(h c).1.trans ?_, (h c).2⟩) (Cert.Pcen.Ref.run_value m' g')⟩
  obtain ⟨e0, e1, e2, e3⟩ := hargs c
  refine (results_eq m m' c e0.symm e1.symm e2.symm e3.symm ?_).symm
  intro i
  have hi := Cert.Pcen.Pre.nonneg_of_pre _ _ _ _ _ (hpre c) i
  exact hi.trans_eq (congrFun e0 i).symm

/-- The certificate. -/
theorem claim : Cert.Claim :=
  ⟨Cert.Kernel.Gen.facts, Cert.KernelIdeal.Gen.facts, Cert.ReferenceIdeal.Gen.facts, Cert.Pcen.Pre.facts,
    fun m g _ => Cert.Kernel.Gen.frame m g,
    fun m g _ => Cert.KernelIdeal.Gen.frame m g,
    fun m g _ => Cert.KernelIdeal.Gen.frame m g,
    fun m g _ => Cert.Pcen.Ref.frame m g,
    fun m g _ => Cert.Pcen.Ref.frame m g,
    trivial,
    algebraic⟩

end Cert.Proof

end
